-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lens_fit [hPre_lens_fit : Cert.Pre_lens_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lens_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_fit [hPre_lens_fit : Cert.Pre_lens_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_lens_fit [hKernelIdeal : Cert.KernelIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lens_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_lens_fit [hReferenceIdeal : Cert.ReferenceIdeal.Facts] [hPre_lens_fit : Cert.Pre_lens_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "sm_scale_log2e" .f32 0x3DD53B95#32 (((Real.sqrt 192)⁻¹ * (Real.log 2)⁻¹ : ℝ) : EReal)
  ∧ IdealRules.named_const.Statement Cert.KernelIdeal.κ "sm_scale" .f32 0x3D93CD3A#32 (((Real.sqrt 192)⁻¹ : ℝ) : EReal)

def algebraic_KernelIdeal_ReferenceIdeal_pre_lens_fit [hKernelIdeal : Cert.KernelIdeal.Facts] [hReferenceIdeal : Cert.ReferenceIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lens_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_lens_fit : Cert.Pre_lens_fit.Facts),
    quiescent_Kernel (hKernel := hKernel)
    ∧ quiescent_KernelIdeal (hKernelIdeal := hKernelIdeal)
    ∧ quiescent_KernelIdeal_pre_lens_fit (hKernelIdeal := hKernelIdeal) (hPre_lens_fit := hPre_lens_fit)
    ∧ quiescent_ReferenceIdeal (hReferenceIdeal := hReferenceIdeal)
    ∧ quiescent_ReferenceIdeal_pre_lens_fit (hReferenceIdeal := hReferenceIdeal) (hPre_lens_fit := hPre_lens_fit)
    ∧ preserves_Kernel_KernelIdeal
    ∧ algebraic_KernelIdeal_ReferenceIdeal_pre_lens_fit (hKernelIdeal := hKernelIdeal) (hReferenceIdeal := hReferenceIdeal) (hPre_lens_fit := hPre_lens_fit)
-- ==== Pre_lens_fit.lean ====
abbrev S12x1664x32x512 : Shape := ⟨4, ![12, 1664, 32, 512]⟩
abbrev S12x1664x32 : Shape := ⟨3, ![12, 1664, 32]⟩
abbrev S12x1664x32x64 : Shape := ⟨4, ![12, 1664, 32, 64]⟩
abbrev S12x1664x512 : Shape := ⟨3, ![12, 1664, 512]⟩
abbrev S12x1664 : Shape := ⟨2, ![12, 1664]⟩
abbrev S12x1664x64 : Shape := ⟨3, ![12, 1664, 64]⟩
abbrev S12 : Shape := ⟨1, ![12]⟩
abbrev S_ : Shape := ⟨0, ![]⟩

class Facts : Prop where
  bcast_S_S12 : S_.BroadcastsInDim S12 (![] : Fin 0 → Fin S12.rank)

variable [Facts]

def fn {F : FTy → Type} [FloatOps F] (main_arg0 : FVec F S12x1664x32x512 .fp8e4m3) (main_arg1 : FVec F S12x1664x32 .f32) (main_arg2 : FVec F S12x1664x32x64 .bf16) (main_arg3 : FVec F S12x1664x512 .fp8e4m3) (main_arg4 : FVec F S12x1664 .f32) (main_arg5 : FVec F S12x1664x64 .bf16) (main_arg6 : IVec S12 32) : IVec S12 1 :=
  let main_c : IVec S_ 32 := constantI S_ 32 2147483584#32
  let main_v0 : IVec S12 32 := broadcastInDim S12 ![] bcast_S_S12 main_c
  let main_v1 : IVec S12 1 := cmpi .sle main_arg6 main_v0
  main_v1
-- ==== Kernel.lean ====
abbrev S12x1664x32x512 : Shape := ⟨4, ![12, 1664, 32, 512]⟩
abbrev S12x1664x32 : Shape := ⟨3, ![12, 1664, 32]⟩
abbrev S12x1664x32x64 : Shape := ⟨4, ![12, 1664, 32, 64]⟩
abbrev S12x1664x512 : Shape := ⟨3, ![12, 1664, 512]⟩
abbrev S12x1664 : Shape := ⟨2, ![12, 1664]⟩
abbrev S12x1664x64 : Shape := ⟨3, ![12, 1664, 64]⟩
abbrev S12 : Shape := ⟨1, ![12]⟩
abbrev S_ : Shape := ⟨0, ![]⟩
abbrev S12x1792x512 : Shape := ⟨3, ![12, 1792, 512]⟩
abbrev S12x1792x64 : Shape := ⟨3, ![12, 1792, 64]⟩
abbrev S12x1792 : Shape := ⟨2, ![12, 1792]⟩
abbrev S12x53248x512 : Shape := ⟨3, ![12, 53248, 512]⟩
abbrev S12x53248x64 : Shape := ⟨3, ![12, 53248, 64]⟩
abbrev S1x2048x512 : Shape := ⟨3, ![1, 2048, 512]⟩
abbrev S1 : Shape := ⟨1, ![1]⟩
abbrev S1x64x32 : Shape := ⟨3, ![1, 64, 32]⟩
abbrev S1x2048x64 : Shape := ⟨3, ![1, 2048, 64]⟩
abbrev S1x1792x512 : Shape := ⟨3, ![1, 1792, 512]⟩
abbrev S1x1792x64 : Shape := ⟨3, ![1, 1792, 64]⟩
abbrev S2048x128 : Shape := ⟨2, ![2048, 128]⟩
abbrev S2048x512 : Shape := ⟨2, ![2048, 512]⟩
abbrev S64x32 : Shape := ⟨2, ![64, 32]⟩
abbrev S32x64 : Shape := ⟨2, ![32, 64]⟩
abbrev S32x1 : Shape := ⟨2, ![32, 1]⟩
abbrev S32x128 : Shape := ⟨2, ![32, 128]⟩
abbrev S64x32x256 : Shape := ⟨3, ![64, 32, 256]⟩
abbrev S2048x256 : Shape := ⟨2, ![2048, 256]⟩
abbrev S1x256x512 : Shape := ⟨3, ![1, 256, 512]⟩
abbrev S256x512 : Shape := ⟨2, ![256, 512]⟩
abbrev S1x256x64 : Shape := ⟨3, ![1, 256, 64]⟩
abbrev S256x64 : Shape := ⟨2, ![256, 64]⟩
abbrev S1x256 : Shape := ⟨2, ![1, 256]⟩
abbrev S2048x64 : Shape := ⟨2, ![2048, 64]⟩
abbrev S2048 : Shape := ⟨1, ![2048]⟩
abbrev S2048x1 : Shape := ⟨2, ![2048, 1]⟩
abbrev S64x32x512 : Shape := ⟨3, ![64, 32, 512]⟩
abbrev S128x32 : Shape := ⟨2, ![128, 32]⟩

abbrev nBuf : Space → Nat
  | .hbm => 19
  | .vmem => 19
  | .smem => 1
  | _ => 0

abbrev bufTy : (tb : Table) → Fin (tcTables nBuf tb) → BufTy
  | .hbm, ⟨0, _⟩ => ⟨S12x1664x32x512, .fp8e4m3⟩
  | .hbm, ⟨1, _⟩ => ⟨S12x1664x32, .f32⟩
  | .hbm, ⟨2, _⟩ => ⟨S12x1664x32x64, .bf16⟩
  | .hbm, ⟨3, _⟩ => ⟨S12x1664x512, .fp8e4m3⟩
  | .hbm, ⟨4, _⟩ => ⟨S12x1664, .f32⟩
  | .hbm, ⟨5, _⟩ => ⟨S12x1664x64, .bf16⟩
  | .hbm, ⟨6, _⟩ => ⟨S_, .i8⟩
  | .hbm, ⟨7, _⟩ => ⟨S_, .fp8e4m3⟩
  | .hbm, ⟨8, _⟩ => ⟨S12x1792x512, .fp8e4m3⟩
  | .hbm, ⟨9, _⟩ => ⟨S_, .i32⟩
  | .hbm, ⟨10, _⟩ => ⟨S_, .bf16⟩
  | .hbm, ⟨11, _⟩ => ⟨S12x1792x64, .bf16⟩
  | .hbm, ⟨12, _⟩ => ⟨S_, .i32⟩
  | .hbm, ⟨13, _⟩ => ⟨S_, .f32⟩
  | .hbm, ⟨14, _⟩ => ⟨S12x1792, .f32⟩
  | .hbm, ⟨15, _⟩ => ⟨S12x53248x512, .fp8e4m3⟩
  | .hbm, ⟨16, _⟩ => ⟨S12x53248x64, .bf16⟩
  | .hbm, ⟨17, _⟩ => ⟨S12x53248x512, .bf16⟩
  | .hbm, ⟨18, _⟩ => ⟨S12x1664x32, .f32⟩
  | .local _ .vmem, ⟨0, _⟩ => ⟨S1x2048x512, .fp8e4m3⟩
  | .local _ .vmem, ⟨1, _⟩ => ⟨S1x2048x512, .fp8e4m3⟩
  | .local _ .vmem, ⟨2, _⟩ => ⟨S1x64x32, .f32⟩
  | .local _ .vmem, ⟨3, _⟩ => ⟨S1x64x32, .f32⟩
  | .local _ .vmem, ⟨4, _⟩ => ⟨S1x2048x64, .bf16⟩
  | .local _ .vmem, ⟨5, _⟩ => ⟨S1x2048x64, .bf16⟩
  | .local _ .vmem, ⟨6, _⟩ => ⟨S1x1792x512, .fp8e4m3⟩
  | .local _ .vmem, ⟨7, _⟩ => ⟨S1x1792x512, .fp8e4m3⟩
  | .local _ .vmem, ⟨8, _⟩ => ⟨S12x1792, .f32⟩
  | .local _ .vmem, ⟨9, _⟩ => ⟨S1x1792x64, .bf16⟩
  | .local _ .vmem, ⟨10, _⟩ => ⟨S1x1792x64, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x64x32, .f32⟩
  | .local _ .vmem, ⟨14, _⟩ => ⟨S1x64x32, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x512, .f32⟩
  | .local _ .smem, ⟨0, _⟩ => ⟨S12, .i32⟩
  | _, _ => ⟨S12x1664x32x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_v2 : Ref sig .tc := ⟨.hbm, 11, rfl⟩
abbrev main_c_1 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![12, 26], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (i : grid0.Coords) : Scf.Loop 32 :=
  let c0_i32_84 : BitVec 32 := 0#32
  let arg1 : BitVec 32 := BitVec.ofNat 32 (i 1).val
  let c64_i32 : BitVec 32 := 64#32
  let v2 : BitVec 32 := Scalar.muli arg1 c64_i32
  let c64_i32_76 : BitVec 32 := 64#32
  let v408 : BitVec 32 := Scalar.addi v2 c64_i32_76
  let c256_i32 : BitVec 32 := 256#32
  let v409 : BitVec 32 := Scalar.addi v408 c256_i32
  let c1_i32 : BitVec 32 := 1#32
  let v410 : BitVec 32 := Scalar.subi v409 c1_i32
  let c0_i32_78 : BitVec 32 := 0#32
  let v412 : BitVec 1 := Scalar.cmpi .sgt v410 c0_i32_78
  let v413 : BitVec 32 := Scalar.extui v412
  let c0_i32_79 : BitVec 32 := 0#32
  let v414 : BitVec 1 := Scalar.cmpi .slt v410 c0_i32_79
  let v415 : BitVec 32 := Scalar.extui v414
  let v416 : BitVec 32 := Scalar.subi v413 v415
  let c256_i32_77 : BitVec 32 := 256#32
  let c0_i32_80 : BitVec 32 := 0#32
  let v417 : BitVec 1 := Scalar.cmpi .sgt c256_i32_77 c0_i32_80
  let v418 : BitVec 32 := Scalar.extui v417
  let c0_i32_81 : BitVec 32 := 0#32
  let v419 : BitVec 1 := Scalar.cmpi .slt c256_i32_77 c0_i32_81
  let v420 : BitVec 32 := Scalar.extui v419
  let v421 : BitVec 32 := Scalar.subi v418 v420
  let v422 : BitVec 1 := Scalar.cmpi .ne v416 v421
  let v423 : BitVec 32 := Scalar.remsi v410 c256_i32_77
  let c0_i32_82 : BitVec 32 := 0#32
  let v424 : BitVec 1 := Scalar.cmpi .ne v423 c0_i32_82
  let v425 : BitVec 1 := Scalar.andi v422 v424
  let v411 : BitVec 32 := Scalar.divsi v410 c256_i32_77
  let c1_i32_83 : BitVec 32 := 1#32
  let v426 : BitVec 32 := Scalar.subi v411 c1_i32_83
  let v427 : BitVec 32 := Scalar.select v425 v426 v411
  let v433 : BitVec 32 := Scalar.subi v427 c0_i32_84
  let c1_i32_86 : BitVec 32 := 1#32
  let v435 : BitVec 32 := Scalar.divsi v433 c1_i32_86
  let v436 : BitVec 32 := Scalar.muli v435 c1_i32_86
  let v437 : BitVec 32 := Scalar.addi c0_i32_84 v436
  let c1_i32_87 : BitVec 32 := 1#32
  ⟨c0_i32_84, v437, c1_i32_87⟩
def k0_mult1 (i : grid0.Coords) (k0_t1 : Fin (k0_t1_loop i).trips) : BitVec 32 :=
  let c0_i32_84 : BitVec 32 := 0#32
  let c1_i32_87 : BitVec 32 := 1#32
  let arg15 : BitVec 32 := Scf.iv c0_i32_84 c1_i32_87 k0_t1
  let c256_i32_110 : BitVec 32 := 256#32
  let v733 : BitVec 32 := Scalar.muli arg15 c256_i32_110
  v733
def k0_off2 (i : grid0.Coords) (k0_t1 : Fin (k0_t1_loop i).trips) : Fin 3 → Nat :=
  let c0_111 : Index := 0#32
  let c0_i32_84 : BitVec 32 := 0#32
  let c1_i32_87 : BitVec 32 := 1#32
  let arg15 : BitVec 32 := Scf.iv c0_i32_84 c1_i32_87 k0_t1
  let c256_i32_110 : BitVec 32 := 256#32
  let v733 : BitVec 32 := Scalar.muli arg15 c256_i32_110
  let v734 : BitVec 32 := v733
  let v735 : Index := Scalar.indexCast v734
  let c0_112 : Index := 0#32
  ![0, v735.toNat, 0]
def k0_off3 (i : grid0.Coords) (k0_t1 : Fin (k0_t1_loop i).trips) : Fin 3 → Nat :=
  let c0_113 : Index := 0#32
  let c0_i32_84 : BitVec 32 := 0#32
  let c1_i32_87 : BitVec 32 := 1#32
  let arg15 : BitVec 32 := Scf.iv c0_i32_84 c1_i32_87 k0_t1
  let c256_i32_110 : BitVec 32 := 256#32
  let v733 : BitVec 32 := Scalar.muli arg15 c256_i32_110
  let v734 : BitVec 32 := v733
  let v738 : Index := Scalar.indexCast v734
  let c0_114 : Index := 0#32
  ![0, v738.toNat, 0]
def k0_off4 (i : grid0.Coords) (k0_t1 : Fin (k0_t1_loop i).trips) : Fin 2 → Nat :=
  let arg0 : BitVec 32 := BitVec.ofNat 32 (i 0).val
  let v741 : Index := Scalar.indexCast arg0
  let c0_i32_84 : BitVec 32 := 0#32
  let c1_i32_87 : BitVec 32 := 1#32
  let arg15 : BitVec 32 := Scf.iv c0_i32_84 c1_i32_87 k0_t1
  let c256_i32_110 : BitVec 32 := 256#32
  let v733 : BitVec 32 := Scalar.muli arg15 c256_i32_110
  let v734 : BitVec 32 := v733
  let v742 : Index := Scalar.indexCast v734
  ![v741.toNat, v742.toNat]
@[reducible] def k0_t2_loop (i : grid0.Coords) : Scf.Loop 32 :=
  let c0_i32_84 : BitVec 32 := 0#32
  let arg1 : BitVec 32 := BitVec.ofNat 32 (i 1).val
  let c64_i32 : BitVec 32 := 64#32
  let v2 : BitVec 32 := Scalar.muli arg1 c64_i32
  let c64_i32_76 : BitVec 32 := 64#32
  let v408 : BitVec 32 := Scalar.addi v2 c64_i32_76
  let c256_i32 : BitVec 32 := 256#32
  let v409 : BitVec 32 := Scalar.addi v408 c256_i32
  let c1_i32 : BitVec 32 := 1#32
  let v410 : BitVec 32 := Scalar.subi v409 c1_i32
  let c0_i32_78 : BitVec 32 := 0#32
  let v412 : BitVec 1 := Scalar.cmpi .sgt v410 c0_i32_78
  let v413 : BitVec 32 := Scalar.extui v412
  let c0_i32_79 : BitVec 32 := 0#32
  let v414 : BitVec 1 := Scalar.cmpi .slt v410 c0_i32_79
  let v415 : BitVec 32 := Scalar.extui v414
  let v416 : BitVec 32 := Scalar.subi v413 v415
  let c256_i32_77 : BitVec 32 := 256#32
  let c0_i32_80 : BitVec 32 := 0#32
  let v417 : BitVec 1 := Scalar.cmpi .sgt c256_i32_77 c0_i32_80
  let v418 : BitVec 32 := Scalar.extui v417
  let c0_i32_81 : BitVec 32 := 0#32
  let v419 : BitVec 1 := Scalar.cmpi .slt c256_i32_77 c0_i32_81
  let v420 : BitVec 32 := Scalar.extui v419
  let v421 : BitVec 32 := Scalar.subi v418 v420
  let v422 : BitVec 1 := Scalar.cmpi .ne v416 v421
  let v423 : BitVec 32 := Scalar.remsi v410 c256_i32_77
  let c0_i32_82 : BitVec 32 := 0#32
  let v424 : BitVec 1 := Scalar.cmpi .ne v423 c0_i32_82
  let v425 : BitVec 1 := Scalar.andi v422 v424
  let v411 : BitVec 32 := Scalar.divsi v410 c256_i32_77
  let c1_i32_83 : BitVec 32 := 1#32
  let v426 : BitVec 32 := Scalar.subi v411 c1_i32_83
  let v427 : BitVec 32 := Scalar.select v425 v426 v411
  let v433 : BitVec 32 := Scalar.subi v427 c0_i32_84
  let c1_i32_86 : BitVec 32 := 1#32
  let v435 : BitVec 32 := Scalar.divsi v433 c1_i32_86
  let v436 : BitVec 32 := Scalar.muli v435 c1_i32_86
  let v437 : BitVec 32 := Scalar.addi c0_i32_84 v436
  let v434 : BitVec 32 := Scalar.addi c0_i32_84 v433
  let c1_i32_88 : BitVec 32 := 1#32
  ⟨v437, v434, c1_i32_88⟩
def k0_mult2 (i : grid0.Coords) (k0_t2 : Fin (k0_t2_loop i).trips) : BitVec 32 :=
  let c0_i32_84 : BitVec 32 := 0#32
  let arg1 : BitVec 32 := BitVec.ofNat 32 (i 1).val
  let c64_i32 : BitVec 32 := 64#32
  let v2 : BitVec 32 := Scalar.muli arg1 c64_i32
  let c64_i32_76 : BitVec 32 := 64#32
  let v408 : BitVec 32 := Scalar.addi v2 c64_i32_76
  let c256_i32 : BitVec 32 := 256#32
  let v409 : BitVec 32 := Scalar.addi v408 c256_i32
  let c1_i32 : BitVec 32 := 1#32
  let v410 : BitVec 32 := Scalar.subi v409 c1_i32
  let c0_i32_78 : BitVec 32 := 0#32
  let v412 : BitVec 1 := Scalar.cmpi .sgt v410 c0_i32_78
  let v413 : BitVec 32 := Scalar.extui v412
  let c0_i32_79 : BitVec 32 := 0#32
  let v414 : BitVec 1 := Scalar.cmpi .slt v410 c0_i32_79
  let v415 : BitVec 32 := Scalar.extui v414
  let v416 : BitVec 32 := Scalar.subi v413 v415
  let c256_i32_77 : BitVec 32 := 256#32
  let c0_i32_80 : BitVec 32 := 0#32
  let v417 : BitVec 1 := Scalar.cmpi .sgt c256_i32_77 c0_i32_80
  let v418 : BitVec 32 := Scalar.extui v417
  let c0_i32_81 : BitVec 32 := 0#32
  let v419 : BitVec 1 := Scalar.cmpi .slt c256_i32_77 c0_i32_81
  let v420 : BitVec 32 := Scalar.extui v419
  let v421 : BitVec 32 := Scalar.subi v418 v420
  let v422 : BitVec 1 := Scalar.cmpi .ne v416 v421
  let v423 : BitVec 32 := Scalar.remsi v410 c256_i32_77
  let c0_i32_82 : BitVec 32 := 0#32
  let v424 : BitVec 1 := Scalar.cmpi .ne v423 c0_i32_82
  let v425 : BitVec 1 := Scalar.andi v422 v424
  let v411 : BitVec 32 := Scalar.divsi v410 c256_i32_77
  let c1_i32_83 : BitVec 32 := 1#32
  let v426 : BitVec 32 := Scalar.subi v411 c1_i32_83
  let v427 : BitVec 32 := Scalar.select v425 v426 v411
  let v433 : BitVec 32 := Scalar.subi v427 c0_i32_84
  let c1_i32_86 : BitVec 32 := 1#32
  let v435 : BitVec 32 := Scalar.divsi v433 c1_i32_86
  let v436 : BitVec 32 := Scalar.muli v435 c1_i32_86
  let v437 : BitVec 32 := Scalar.addi c0_i32_84 v436
  let c1_i32_88 : BitVec 32 := 1#32
  let arg15 : BitVec 32 := Scf.iv v437 c1_i32_88 k0_t2
  let c256_i32_110 : BitVec 32 := 256#32
  let v733 : BitVec 32 := Scalar.muli arg15 c256_i32_110
  v733
def k0_off5 (i : grid0.Coords) (k0_t2 : Fin (k0_t2_loop i).trips) : Fin 3 → Nat :=
  let c0_111 : Index := 0#32
  let c0_i32_84 : BitVec 32 := 0#32
  let arg1 : BitVec 32 := BitVec.ofNat 32 (i 1).val
  let c64_i32 : BitVec 32 := 64#32
  let v2 : BitVec 32 := Scalar.muli arg1 c64_i32
  let c64_i32_76 : BitVec 32 := 64#32
  let v408 : BitVec 32 := Scalar.addi v2 c64_i32_76
  let c256_i32 : BitVec 32 := 256#32
  let v409 : BitVec 32 := Scalar.addi v408 c256_i32
  let c1_i32 : BitVec 32 := 1#32
  let v410 : BitVec 32 := Scalar.subi v409 c1_i32
  let c0_i32_78 : BitVec 32 := 0#32
  let v412 : BitVec 1 := Scalar.cmpi .sgt v410 c0_i32_78
  let v413 : BitVec 32 := Scalar.extui v412
  let c0_i32_79 : BitVec 32 := 0#32
  let v414 : BitVec 1 := Scalar.cmpi .slt v410 c0_i32_79
  let v415 : BitVec 32 := Scalar.extui v414
  let v416 : BitVec 32 := Scalar.subi v413 v415
  let c256_i32_77 : BitVec 32 := 256#32
  let c0_i32_80 : BitVec 32 := 0#32
  let v417 : BitVec 1 := Scalar.cmpi .sgt c256_i32_77 c0_i32_80
  let v418 : BitVec 32 := Scalar.extui v417
  let c0_i32_81 : BitVec 32 := 0#32
  let v419 : BitVec 1 := Scalar.cmpi .slt c256_i32_77 c0_i32_81
  let v420 : BitVec 32 := Scalar.extui v419
  let v421 : BitVec 32 := Scalar.subi v418 v420
  let v422 : BitVec 1 := Scalar.cmpi .ne v416 v421
  let v423 : BitVec 32 := Scalar.remsi v410 c256_i32_77
  let c0_i32_82 : BitVec 32 := 0#32
  let v424 : BitVec 1 := Scalar.cmpi .ne v423 c0_i32_82
  let v425 : BitVec 1 := Scalar.andi v422 v424
  let v411 : BitVec 32 := Scalar.divsi v410 c256_i32_77
  let c1_i32_83 : BitVec 32 := 1#32
  let v426 : BitVec 32 := Scalar.subi v411 c1_i32_83
  let v427 : BitVec 32 := Scalar.select v425 v426 v411
  let v433 : BitVec 32 := Scalar.subi v427 c0_i32_84
  let c1_i32_86 : BitVec 32 := 1#32
  let v435 : BitVec 32 := Scalar.divsi v433 c1_i32_86
  let v436 : BitVec 32 := Scalar.muli v435 c1_i32_86
  let v437 : BitVec 32 := Scalar.addi c0_i32_84 v436
  let c1_i32_88 : BitVec 32 := 1#32
  let arg15 : BitVec 32 := Scf.iv v437 c1_i32_88 k0_t2
  let c256_i32_110 : BitVec 32 := 256#32
  let v733 : BitVec 32 := Scalar.muli arg15 c256_i32_110
  let v734 : BitVec 32 := v733
  let v735 : Index := Scalar.indexCast v734
  let c0_112 : Index := 0#32
  ![0, v735.toNat, 0]
def k0_off6 (i : grid0.Coords) (k0_t2 : Fin (k0_t2_loop i).trips) : Fin 3 → Nat :=
  let c0_113 : Index := 0#32
  let c0_i32_84 : BitVec 32 := 0#32
  let arg1 : BitVec 32 := BitVec.ofNat 32 (i 1).val
  let c64_i32 : BitVec 32 := 64#32
  let v2 : BitVec 32 := Scalar.muli arg1 c64_i32
  let c64_i32_76 : BitVec 32 := 64#32
  let v408 : BitVec 32 := Scalar.addi v2 c64_i32_76
  let c256_i32 : BitVec 32 := 256#32
  let v409 : BitVec 32 := Scalar.addi v408 c256_i32
  let c1_i32 : BitVec 32 := 1#32
  let v410 : BitVec 32 := Scalar.subi v409 c1_i32
  let c0_i32_78 : BitVec 32 := 0#32
  let v412 : BitVec 1 := Scalar.cmpi .sgt v410 c0_i32_78
  let v413 : BitVec 32 := Scalar.extui v412
  let c0_i32_79 : BitVec 32 := 0#32
  let v414 : BitVec 1 := Scalar.cmpi .slt v410 c0_i32_79
  let v415 : BitVec 32 := Scalar.extui v414
  let v416 : BitVec 32 := Scalar.subi v413 v415
  let c256_i32_77 : BitVec 32 := 256#32
  let c0_i32_80 : BitVec 32 := 0#32
  let v417 : BitVec 1 := Scalar.cmpi .sgt c256_i32_77 c0_i32_80
  let v418 : BitVec 32 := Scalar.extui v417
  let c0_i32_81 : BitVec 32 := 0#32
  let v419 : BitVec 1 := Scalar.cmpi .slt c256_i32_77 c0_i32_81
  let v420 : BitVec 32 := Scalar.extui v419
  let v421 : BitVec 32 := Scalar.subi v418 v420
  let v422 : BitVec 1 := Scalar.cmpi .ne v416 v421
  let v423 : BitVec 32 := Scalar.remsi v410 c256_i32_77
  let c0_i32_82 : BitVec 32 := 0#32
  let v424 : BitVec 1 := Scalar.cmpi .ne v423 c0_i32_82
  let v425 : BitVec 1 := Scalar.andi v422 v424
  let v411 : BitVec 32 := Scalar.divsi v410 c256_i32_77
  let c1_i32_83 : BitVec 32 := 1#32
  let v426 : BitVec 32 := Scalar.subi v411 c1_i32_83
  let v427 : BitVec 32 := Scalar.select v425 v426 v411
  let v433 : BitVec 32 := Scalar.subi v427 c0_i32_84
  let c1_i32_86 : BitVec 32 := 1#32
  let v435 : BitVec 32 := Scalar.divsi v433 c1_i32_86
  let v436 : BitVec 32 := Scalar.muli v435 c1_i32_86
  let v437 : BitVec 32 := Scalar.addi c0_i32_84 v436
  let c1_i32_88 : BitVec 32 := 1#32
  let arg15 : BitVec 32 := Scf.iv v437 c1_i32_88 k0_t2
  let c256_i32_110 : BitVec 32 := 256#32
  let v733 : BitVec 32 := Scalar.muli arg15 c256_i32_110
  let v734 : BitVec 32 := v733
  let v738 : Index := Scalar.indexCast v734
  let c0_114 : Index := 0#32
  ![0, v738.toNat, 0]
def k0_off7 (i : grid0.Coords) (k0_t2 : Fin (k0_t2_loop i).trips) : Fin 2 → Nat :=
  let arg0 : BitVec 32 := BitVec.ofNat 32 (i 0).val
  let v741 : Index := Scalar.indexCast arg0
  let c0_i32_84 : BitVec 32 := 0#32
  let arg1 : BitVec 32 := BitVec.ofNat 32 (i 1).val
  let c64_i32 : BitVec 32 := 64#32
  let v2 : BitVec 32 := Scalar.muli arg1 c64_i32
  let c64_i32_76 : BitVec 32 := 64#32
  let v408 : BitVec 32 := Scalar.addi v2 c64_i32_76
  let c256_i32 : BitVec 32 := 256#32
  let v409 : BitVec 32 := Scalar.addi v408 c256_i32
  let c1_i32 : BitVec 32 := 1#32
  let v410 : BitVec 32 := Scalar.subi v409 c1_i32
  let c0_i32_78 : BitVec 32 := 0#32
  let v412 : BitVec 1 := Scalar.cmpi .sgt v410 c0_i32_78
  let v413 : BitVec 32 := Scalar.extui v412
  let c0_i32_79 : BitVec 32 := 0#32
  let v414 : BitVec 1 := Scalar.cmpi .slt v410 c0_i32_79
  let v415 : BitVec 32 := Scalar.extui v414
  let v416 : BitVec 32 := Scalar.subi v413 v415
  let c256_i32_77 : BitVec 32 := 256#32
  let c0_i32_80 : BitVec 32 := 0#32
  let v417 : BitVec 1 := Scalar.cmpi .sgt c256_i32_77 c0_i32_80
  let v418 : BitVec 32 := Scalar.extui v417
  let c0_i32_81 : BitVec 32 := 0#32
  let v419 : BitVec 1 := Scalar.cmpi .slt c256_i32_77 c0_i32_81
  let v420 : BitVec 32 := Scalar.extui v419
  let v421 : BitVec 32 := Scalar.subi v418 v420
  let v422 : BitVec 1 := Scalar.cmpi .ne v416 v421
  let v423 : BitVec 32 := Scalar.remsi v410 c256_i32_77
  let c0_i32_82 : BitVec 32 := 0#32
  let v424 : BitVec 1 := Scalar.cmpi .ne v423 c0_i32_82
  let v425 : BitVec 1 := Scalar.andi v422 v424
  let v411 : BitVec 32 := Scalar.divsi v410 c256_i32_77
  let c1_i32_83 : BitVec 32 := 1#32
  let v426 : BitVec 32 := Scalar.subi v411 c1_i32_83
  let v427 : BitVec 32 := Scalar.select v425 v426 v411
  let v433 : BitVec 32 := Scalar.subi v427 c0_i32_84
  let c1_i32_86 : BitVec 32 := 1#32
  let v435 : BitVec 32 := Scalar.divsi v433 c1_i32_86
  let v436 : BitVec 32 := Scalar.muli v435 c1_i32_86
  let v437 : BitVec 32 := Scalar.addi c0_i32_84 v436
  let c1_i32_88 : BitVec 32 := 1#32
  let arg15 : BitVec 32 := Scf.iv v437 c1_i32_88 k0_t2
  let c256_i32_110 : BitVec 32 := 256#32
  let v733 : BitVec 32 := Scalar.muli arg15 c256_i32_110
  let v734 : BitVec 32 := v733
  let v742 : Index := Scalar.indexCast v734
  ![v741.toNat, v742.toNat]
def k0_cond1 (i : grid0.Coords) (v1 : BitVec 32) : BitVec 1 :=
  let arg1 : BitVec 32 := BitVec.ofNat 32 (i 1).val
  let c64_i32 : BitVec 32 := 64#32
  let v2 : BitVec 32 := Scalar.muli arg1 c64_i32
  let v3 : BitVec 1 := Scalar.cmpi .sge v2 v1
  let v4 : BitVec 32 := Scalar.extui v3
  let c0_i32 : BitVec 32 := 0#32
  let v5 : BitVec 1 := Scalar.cmpi .ne v4 c0_i32
  v5

def k0_cond2 (i : grid0.Coords) (v1 : BitVec 32) : BitVec 1 :=
  let arg1 : BitVec 32 := BitVec.ofNat 32 (i 1).val
  let c64_i32 : BitVec 32 := 64#32
  let v2 : BitVec 32 := Scalar.muli arg1 c64_i32
  let v6 : BitVec 1 := Scalar.cmpi .slt v2 v1
  let v7 : BitVec 32 := Scalar.extui v6
  let c0_i32_0 : BitVec 32 := 0#32
  let v8 : BitVec 1 := Scalar.cmpi .ne v7 c0_i32_0
  v8

def cc0_transform_0 (k0_off1_inb : ∀ i : grid0.Coords, ∀ a, (k0_off1 i) a + S1.size a ≤ S12.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S12) ![v0.toNat] S1.size (k0_off1_inb i)) numel1_S1
  let c64_i32 : BitVec 32 := 64#32
  let v2 : BitVec 32 := Scalar.addi v1 c64_i32
  let c1_i32 : BitVec 32 := 1#32
  let v3 : BitVec 32 := Scalar.subi v2 c1_i32
  let c64_i32_0 : BitVec 32 := 64#32
  let v4 : BitVec 32 := Scalar.divsi v3 c64_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_1 (k0_off1_inb : ∀ i : grid0.Coords, ∀ a, (k0_off1 i) a + S1.size a ≤ S12.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S12) ![v0.toNat] S1.size (k0_off1_inb i)) numel1_S1
  let c64_i32 : BitVec 32 := 64#32
  let v2 : BitVec 32 := Scalar.addi v1 c64_i32
  let c1_i32 : BitVec 32 := 1#32
  let v3 : BitVec 32 := Scalar.subi v2 c1_i32
  let c64_i32_0 : BitVec 32 := 64#32
  let v4 : BitVec 32 := Scalar.divsi v3 c64_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_2 (k0_off1_inb : ∀ i : grid0.Coords, ∀ a, (k0_off1 i) a + S1.size a ≤ S12.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S12) ![v0.toNat] S1.size (k0_off1_inb i)) numel1_S1
  let c64_i32 : BitVec 32 := 64#32
  let v2 : BitVec 32 := Scalar.addi v1 c64_i32
  let c1_i32 : BitVec 32 := 1#32
  let v3 : BitVec 32 := Scalar.subi v2 c1_i32
  let c64_i32_0 : BitVec 32 := 64#32
  let v4 : BitVec 32 := Scalar.divsi v3 c64_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S12x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1792x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "sm_scale" => some (((Real.sqrt 192)⁻¹ : ℝ) : EReal)
  | "sm_scale_log2e" => some (((Real.sqrt 192)⁻¹ * (Real.log 2)⁻¹ : ℝ) : EReal)
  | _ => none
-- ==== ReferenceIdeal.lean ====
abbrev S12x1664x32x512 : Shape := ⟨4, ![12, 1664, 32, 512]⟩
abbrev S12x1664x32 : Shape := ⟨3, ![12, 1664, 32]⟩
abbrev S12x1664x32x64 : Shape := ⟨4, ![12, 1664, 32, 64]⟩
abbrev S12x1664x512 : Shape := ⟨3, ![12, 1664, 512]⟩
abbrev S12x1664 : Shape := ⟨2, ![12, 1664]⟩
abbrev S12x1664x64 : Shape := ⟨3, ![12, 1664, 64]⟩
abbrev S12 : Shape := ⟨1, ![12]⟩
abbrev S12x1664x32x1664 : Shape := ⟨4, ![12, 1664, 32, 1664]⟩
abbrev S12x1664x32x1 : Shape := ⟨4, ![12, 1664, 32, 1]⟩
abbrev S12x1x1x1664 : Shape := ⟨4, ![12, 1, 1, 1664]⟩
abbrev S_ : Shape := ⟨0, ![]⟩
abbrev S1664 : Shape := ⟨1, ![1664]⟩
abbrev S1x1664 : Shape := ⟨2, ![1, 1664]⟩
abbrev S1664x1 : Shape := ⟨2, ![1664, 1]⟩
abbrev S1664x1664 : Shape := ⟨2, ![1664, 1664]⟩
abbrev S1x1664x1x1664 : Shape := ⟨4, ![1, 1664, 1, 1664]⟩
abbrev S12x1 : Shape := ⟨2, ![12, 1]⟩
abbrev S12x1664x1x1 : Shape := ⟨4, ![12, 1664, 1, 1]⟩
abbrev S12x1664x1 : Shape := ⟨3, ![12, 1664, 1]⟩
abbrev S12x53248x512 : Shape := ⟨3, ![12, 53248, 512]⟩

abbrev nBuf : Space → Nat
  | .hbm => 76
  | .vmem => 4
  | .smem => 0
  | _ => 0

abbrev bufTy : (tb : Table) → Fin (tcTables nBuf tb) → BufTy
  | .hbm, ⟨0, _⟩ => ⟨S12x1664x32x512, .fp8e4m3⟩
  | .hbm, ⟨1, _⟩ => ⟨S12x1664x32, .f32⟩
  | .hbm, ⟨2, _⟩ => ⟨S12x1664x32x64, .bf16⟩
  | .hbm, ⟨3, _⟩ => ⟨S12x1664x512, .fp8e4m3⟩
  | .hbm, ⟨4, _⟩ => ⟨S12x1664, .f32⟩
  | .hbm, ⟨5, _⟩ => ⟨S12x1664x64, .bf16⟩
  | .hbm, ⟨6, _⟩ => ⟨S12, .i32⟩
  | .hbm, ⟨7, _⟩ => ⟨S12x1664x32x512, .f32⟩
  | .hbm, ⟨8, _⟩ => ⟨S12x1664x512, .f32⟩
  | .hbm, ⟨9, _⟩ => ⟨S12x1664x32x1664, .f32⟩
  | .hbm, ⟨10, _⟩ => ⟨S12x1664x32x1664, .f32⟩
  | .hbm, ⟨11, _⟩ => ⟨S12x1664x32x1, .f32⟩
  | .hbm, ⟨12, _⟩ => ⟨S12x1664x32x1664, .f32⟩
  | .hbm, ⟨13, _⟩ => ⟨S12x1664x32x1664, .f32⟩
  | .hbm, ⟨14, _⟩ => ⟨S12x1x1x1664, .f32⟩
  | .hbm, ⟨15, _⟩ => ⟨S12x1664x32x1664, .f32⟩
  | .hbm, ⟨16, _⟩ => ⟨S12x1664x32x1664, .f32⟩
  | .hbm, ⟨17, _⟩ => ⟨S12x1664x32x1664, .f32⟩
  | .hbm, ⟨18, _⟩ => ⟨S_, .f32⟩
  | .hbm, ⟨19, _⟩ => ⟨S_, .f32⟩
  | .hbm, ⟨20, _⟩ => ⟨S12x1664x32x1664, .f32⟩
  | .hbm, ⟨21, _⟩ => ⟨S12x1664x32x1664, .f32⟩
  | .hbm, ⟨22, _⟩ => ⟨S1664, .i32⟩
  | .hbm, ⟨23, _⟩ => ⟨S1x1664, .i32⟩
  | .hbm, ⟨24, _⟩ => ⟨S1664x1, .i32⟩
  | .hbm, ⟨25, _⟩ => ⟨S1664x1664, .i32⟩
  | .hbm, ⟨26, _⟩ => ⟨S1664x1664, .i32⟩
  | .hbm, ⟨27, _⟩ => ⟨S1664x1664, .i1⟩
  | .hbm, ⟨28, _⟩ => ⟨S1x1664x1x1664, .i1⟩
  | .hbm, ⟨29, _⟩ => ⟨S_, .f32⟩
  | .hbm, ⟨30, _⟩ => ⟨S_, .f32⟩
  | .hbm, ⟨31, _⟩ => ⟨S12x1664x32x1664, .i1⟩
  | .hbm, ⟨32, _⟩ => ⟨S12x1664x32x1664, .f32⟩
  | .hbm, ⟨33, _⟩ => ⟨S12x1664x32x1664, .f32⟩
  | .hbm, ⟨34, _⟩ => ⟨S_, .f32⟩
  | .hbm, ⟨35, _⟩ => ⟨S12x1664x32, .f32⟩
  | .hbm, ⟨36, _⟩ => ⟨S12x1664x32x1, .f32⟩
  | .hbm, ⟨37, _⟩ => ⟨S12x1664x32x1664, .f32⟩
  | .hbm, ⟨38, _⟩ => ⟨S12x1664x32x1664, .f32⟩
  | .hbm, ⟨39, _⟩ => ⟨S12x1664x32x1664, .f32⟩
  | .hbm, ⟨40, _⟩ => ⟨S_, .f32⟩
  | .hbm, ⟨41, _⟩ => ⟨S12x1664x32, .f32⟩
  | .hbm, ⟨42, _⟩ => ⟨S12x1664x32x1, .f32⟩
  | .hbm, ⟨43, _⟩ => ⟨S12x1664x32x1, .f32⟩
  | .hbm, ⟨44, _⟩ => ⟨S12x1664x32x1, .f32⟩
  | .hbm, ⟨45, _⟩ => ⟨S_, .f32⟩
  | .hbm, ⟨46, _⟩ => ⟨S12x1664x32x1, .f32⟩
  | .hbm, ⟨47, _⟩ => ⟨S12x1664x32x1, .f32⟩
  | .hbm, ⟨48, _⟩ => ⟨S12x1664x32x1664, .f32⟩
  | .hbm, ⟨49, _⟩ => ⟨S12x1664x32x1664, .f32⟩
  | .hbm, ⟨50, _⟩ => ⟨S12x1x1x1664, .f32⟩
  | .hbm, ⟨51, _⟩ => ⟨S12x1664x32x1664, .f32⟩
  | .hbm, ⟨52, _⟩ => ⟨S12x1664x32x1664, .f32⟩
  | .hbm, ⟨53, _⟩ => ⟨S12x1664x32x1664, .bf16⟩
  | .hbm, ⟨54, _⟩ => ⟨S12x1664x512, .bf16⟩
  | .hbm, ⟨55, _⟩ => ⟨S12x1664x32x512, .f32⟩
  | .hbm, ⟨56, _⟩ => ⟨S1x1664, .i32⟩
  | .hbm, ⟨57, _⟩ => ⟨S12x1, .i32⟩
  | .hbm, ⟨58, _⟩ => ⟨S12x1664, .i32⟩
  | .hbm, ⟨59, _⟩ => ⟨S12x1664, .i32⟩
  | .hbm, ⟨60, _⟩ => ⟨S12x1664, .i1⟩
  | .hbm, ⟨61, _⟩ => ⟨S12x1664x1x1, .i1⟩
  | .hbm, ⟨62, _⟩ => ⟨S_, .f32⟩
  | .hbm, ⟨63, _⟩ => ⟨S_, .f32⟩
  | .hbm, ⟨64, _⟩ => ⟨S12x1664x32x512, .i1⟩
  | .hbm, ⟨65, _⟩ => ⟨S12x1664x32x512, .f32⟩
  | .hbm, ⟨66, _⟩ => ⟨S12x1664x32x512, .f32⟩
  | .hbm, ⟨67, _⟩ => ⟨S12x1664x32x512, .bf16⟩
  | .hbm, ⟨68, _⟩ => ⟨S12x1664x1, .i1⟩
  | .hbm, ⟨69, _⟩ => ⟨S12x1664x32, .f32⟩
  | .hbm, ⟨70, _⟩ => ⟨S_, .f32⟩
  | .hbm, ⟨71, _⟩ => ⟨S_, .f32⟩
  | .hbm, ⟨72, _⟩ => ⟨S12x1664x32, .i1⟩
  | .hbm, ⟨73, _⟩ => ⟨S12x1664x32, .f32⟩
  | .hbm, ⟨74, _⟩ => ⟨S12x1664x32, .f32⟩
  | .hbm, ⟨75, _⟩ => ⟨S12x53248x512, .bf16⟩
  | .local _ .vmem, ⟨0, _⟩ => ⟨S12x1664x32x512, .fp8e4m3⟩
  | .local _ .vmem, ⟨1, _⟩ => ⟨S12x1664x512, .fp8e4m3⟩
  | .local _ .vmem, ⟨2, _⟩ => ⟨S12x1664x32x512, .f32⟩
  | .local _ .vmem, ⟨3, _⟩ => ⟨S12x1664x512, .f32⟩
  | _, _ => ⟨S12x1664x32x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S12x1664x32x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x1664x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x1664x32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x1664x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KPoints.lean ====
/- The grid's points and blocks in closed form. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
/-- Window 3 (operand 4 (%1)) is fetched at the points ≡ 0 (mod 26), at any contents of the tables (its index map reads none). -/
theorem fetch0_3 (a : (pcfg0 (F := F)).Adm) : ∀ t : Fin (cfg0 a).N, ((cfg0 a).win 3).fetch t = true ↔ t.val % 26 = 0 :=
  (fun t => Pipeline.Window.fetchOf_reads cc0_transform_3 reads0_3 hreads0_3 0 (by decide) (by decide) (Pipeline.Window.sep_of_coord cc0_transform_3 0 0 (fun _ => rfl) (by decide)) (P := 26) (by decide) t : ∀ t : Fin grid0.N, Pipeline.Window.fetchOf grid0 false cc0_transform_3 t = true ↔ t.val % 26 = 0)
/-- Window 4 (operand 5 (%3)) is fetched at the first point only, at any contents of the tables (its index map reads none). -/
theorem fetch0_4 (a : (pcfg0 (F := F)).Adm) : ∀ t : Fin (cfg0 a).N, ((cfg0 a).win 4).fetch t = true ↔ t.val % 312 = 0 :=
  (fun t => Pipeline.Window.fetchOf_const cc0_transform_4 (fun _ _ => rfl) (n := 312) (by decide) t : ∀ t : Fin grid0.N, Pipeline.Window.fetchOf grid0 false cc0_transform_4 t = true ↔ t.val % 312 = 0)
/-- Window 5 (operand 6 (%2)) is fetched at the points ≡ 0 (mod 26), at any contents of the tables (its index map reads none). -/
theorem fetch0_5 (a : (pcfg0 (F := F)).Adm) : ∀ t : Fin (cfg0 a).N, ((cfg0 a).win 5).fetch t = true ↔ t.val % 26 = 0 :=
  (fun t => Pipeline.Window.fetchOf_reads cc0_transform_5 reads0_5 hreads0_5 0 (by decide) (by decide) (Pipeline.Window.sep_of_coord cc0_transform_5 0 0 (fun _ => rfl) (by decide)) (P := 26) (by decide) t : ∀ t : Fin grid0.N, Pipeline.Window.fetchOf grid0 false cc0_transform_5 t = true ↔ t.val % 26 = 0)
/-- Window 6 (result 0 (%6#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)
/-- Window 7 (result 1 (%6#1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_attn (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Kernel.Gen

end
-- ==== Proof.KRuns.lean ====
/- What the two runs of the body share: @main up to the region, the prefetched lengths, the windows' blocks, and the
   two branch conditions. The conditions are `t0 ≥ n` and `t0 < n`: exactly one of them holds (`excl0`, `cover0`). -/
module

public import proofs.«01_k».proof.Proof.Gen.Kernel.Launch
public import proofs.«01_k».proof.Proof.Gen.Kernel.Skeleton
public import proofs.«01_k».proof.Proof.Gen.Kernel.Loops
public import proofs.«01_k».proof.Proof.KPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S12 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 1 rfl).trans ((hA c 1).trans (V_main_arg1 m c)),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The body's branch conditions -/

/-- The condition of the body's `scf.if` 0 (`k0_h1`): over WORDS the body reads from its tables or input SMEM windows
    (`v1`), so no function of the point — a case variable: a hypothesis of each run, a `by_cases`
    of the obligation and an `if` of `outsAt`, stated over the argument blocks' words there. -/
abbrev cond0_0 (i : grid0.Coords) (v1 : BitVec 32) : Prop := k0_cond1 i v1 = 1#1

/-- The condition of the body's `scf.if` 1 (`k0_h2`): over WORDS the body reads from its tables or input SMEM windows
    (`v1`), so no function of the point — a case variable: a hypothesis of each run, a `by_cases`
    of the obligation and an `if` of `outsAt`, stated over the argument blocks' words there. -/
abbrev cond0_1 (i : grid0.Coords) (v1 : BitVec 32) : Prop := k0_cond2 i v1 = 1#1

/-- The first grid token of a point, `64·i`, as the kernel computes it. -/
abbrev t0w (i : grid0.Coords) : BitVec 32 := Scalar.muli (BitVec.ofNat 32 (i 1).val) 64#32

/-- A truth value widened to a word and compared with zero is itself. -/
theorem ne_zero_extui (p : Bool) : Scalar.cmpi .ne (Scalar.extui (BitVec.ofBool p)) 0#32 = BitVec.ofBool p := by
  cases p <;> decide

theorem ofBool_eq_one (p : Bool) : BitVec.ofBool p = 1#1 ↔ p = true := by cases p <;> decide

/-- The first condition is `t0 ≥ n`. -/
theorem cond0_0_iff (i : grid0.Coords) (w : BitVec 32) : cond0_0 i w ↔ w.toInt ≤ (t0w i).toInt := by
  have h : k0_cond1 i w = BitVec.ofBool (decide (w.toInt ≤ (t0w i).toInt)) := ne_zero_extui _
  rw [cond0_0, h, ofBool_eq_one, decide_eq_true_eq]

/-- The second condition is `t0 < n`. -/
theorem cond0_1_iff (i : grid0.Coords) (w : BitVec 32) : cond0_1 i w ↔ (t0w i).toInt < w.toInt := by
  have h : k0_cond2 i w = BitVec.ofBool (decide ((t0w i).toInt < w.toInt)) := ne_zero_extui _
  rw [cond0_1, h, ofBool_eq_one, decide_eq_true_eq]

/-- The two conditions `t0 ≥ n` and `t0 < n` are not both true. -/
theorem excl0 {i : grid0.Coords} {w : BitVec 32} (h0 : cond0_0 i w) (h1 : cond0_1 i w) : False := by
  rw [cond0_0_iff] at h0; rw [cond0_1_iff] at h1; omega

/-- One of the two conditions `t0 ≥ n` and `t0 < n` is true. -/
theorem cover0 {i : grid0.Coords} {w : BitVec 32} (h0 : ¬cond0_0 i w) (h1 : ¬cond0_1 i w) : False := by
  rw [cond0_0_iff] at h0; rw [cond0_1_iff] at h1; omega

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x2048x512 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x64x32 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x64 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1792x512 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S12x1792 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1792x64 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x2048x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x64x32 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S2048x128 .f32 := Memref.whole cc0_scratch0
abbrev scM0_1 : Memref sig .tc .vmem S2048x128 .f32 := Memref.whole cc0_scratch1
abbrev scM0_2 : Memref sig .tc .vmem S2048x128 .f32 := Memref.whole cc0_scratch2
abbrev scM0_3 : Memref sig .tc .vmem S2048x512 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KRunA.lean ====
/- The body's run at a grid point past the sequence's end (`t0 ≥ n`): both output blocks are stored. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken: points all): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec F S1x2048x512 .fp8e4m3) (x1 : Vec F S1x64x32 .f32) (x2 : Vec F S1x2048x64 .bf16) (x3 : Vec F S1x1792x512 .fp8e4m3) (x4 : Vec F S12x1792 .f32) (x5 : Vec F S1x1792x64 .bf16) (xt0 : TbBuf0 (F := F) c tbM0_0) (hc0 : cond0_0 i (tbM0_0.view.readAt (Elt F) (Rect.unit (s := S12) (k0_off1 i) S1.size (k0_off1_inb i)).toLoadRect xt0 (Shape.Idx.first (numel1_S1.symm ▸ Nat.one_pos)))) (hc1 : ¬cond0_1 i (tbM0_0.view.readAt (Elt F) (Rect.unit (s := S12) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0) -∗ K ⟨⟩))
          ⊢ wp frame (wpE (defs₀ (F := F)) Variants.none c none) E (cc0_mla_attn i tbM0_0 htbM0_0 arg3 harg3 arg4 harg4 arg5 harg5 arg6 harg6 arg7 harg7 arg8 harg8 arg9 harg9 arg10 harg10 arg11 harg11 arg12 harg12 arg13 harg13 arg14 harg14) K := by
    intro E K
    simp only [cc0_mla_attn_eq_skeleton]; unfold cc0_mla_attn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Kernel.Gen

end
-- ==== Proof.KRunB.lean ====
/- The body's run at a grid point before the sequence's end (`t0 < n`): the attention is computed and stored. -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1320000 in
/-- The body's triple IN CASE B (`scf.if` 0 not taken, `scf.if` 1 taken: points all): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec F S1x2048x512 .fp8e4m3) (x1 : Vec F S1x64x32 .f32) (x2 : Vec F S1x2048x64 .bf16) (x3 : Vec F S1x1792x512 .fp8e4m3) (x4 : Vec F S12x1792 .f32) (x5 : Vec F S1x1792x64 .bf16) (xt0 : TbBuf0 (F := F) c tbM0_0) (hc0 : ¬cond0_0 i (tbM0_0.view.readAt (Elt F) (Rect.unit (s := S12) (k0_off1 i) S1.size (k0_off1_inb i)).toLoadRect xt0 (Shape.Idx.first (numel1_S1.symm ▸ Nat.one_pos)))) (hc1 : cond0_1 i (tbM0_0.view.readAt (Elt F) (Rect.unit (s := S12) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0) -∗ K ⟨⟩))
          ⊢ wp frame (wpE (defs₀ (F := F)) Variants.none c none) E (cc0_mla_attn i tbM0_0 htbM0_0 arg3 harg3 arg4 harg4 arg5 harg5 arg6 harg6 arg7 harg7 arg8 harg8 arg9 harg9 arg10 harg10 arg11 harg11 arg12 harg12 arg13 harg13 arg14 harg14) K := by
    intro E K
    simp only [cc0_mla_attn_eq_skeleton]; unfold cc0_mla_attn_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Kernel.Gen

end
-- ==== Proof.KFrame.lean ====
/- The frame: from every memory the kernel runs to its end and leaves its arguments as they were; here also what
   each grid point leaves in the output blocks. -/
module

public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare d)
    ∗ (∃ d, owns (c : Thread nD τ) (ms0_7 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ (∃ d, owns (c : Thread nD τ) (ms0_6 m hO t) fullShare d)
    ∗ (∃ d, owns (c : Thread nD τ) (ms0_7 m hO t) fullShare d))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq, PhiA0_eq]
  by_cases h0 : cond0_0 (grid0.coords t) (tbM0_0.view.readAt (Elt F) (Rect.unit (s := S12) (k0_off1 (grid0.coords t)) S1.size (k0_off1_inb (grid0.coords t))).toLoadRect (tbl m 0) (Shape.Idx.first (numel1_S1.symm ▸ Nat.one_pos)))
  · by_cases h1 : cond0_1 (grid0.coords t) (tbM0_0.view.readAt (Elt F) (Rect.unit (s := S12) (k0_off1 (grid0.coords t)) S1.size (k0_off1_inb (grid0.coords t))).toLoadRect (tbl m 0) (Shape.Idx.first (numel1_S1.symm ▸ Nat.one_pos)))
    · exact (excl0 h0 h1).elim
    · iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) h0 h1) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HT0]; · iexact HT0
      iintro ⟨H0, H1, H2, H3, H4, H5, H6, H7, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · by_cases h1 : cond0_1 (grid0.coords t) (tbM0_0.view.readAt (Elt F) (Rect.unit (s := S12) (k0_off1 (grid0.coords t)) S1.size (k0_off1_inb (grid0.coords t))).toLoadRect (tbl m 0) (Shape.Idx.first (numel1_S1.symm ▸ Nat.one_pos)))
    · iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) h0 h1) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HT0]; · iexact HT0
      iintro ⟨H0, H1, H2, H3, H4, H5, H6, H7, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exact (cover0 h0 h1).elim

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel.Gen

end
-- ==== Proof.Words.lean ====
/- The kernel's word arithmetic: the query block a grid point fetches, `min(i, max((n + 63) // 64 - 1, 0))`, read as numbers. -/
module

public import Idealize.ShloMosaic.Lib.WordCmp
public import Idealize.ShloMosaic.Lib.Affine
public import Idealize.ShloMosaic.PureOps

@[expose] public section

namespace Cert.Words

open Idealize.ShloMosaic Idealize.ShloMosaic.WordCmp

/-- `v // 64`, as the kernel computes it (the quotient rounded towards zero, corrected by the signs). -/
def fdiv (v : BitVec 32) : BitVec 32 :=
  let s : BitVec 32 := Scalar.subi (Scalar.extui (Scalar.cmpi .sgt v 0#32)) (Scalar.extui (Scalar.cmpi .slt v 0#32))
  let s64 : BitVec 32 := Scalar.subi (Scalar.extui (Scalar.cmpi .sgt (64#32 : BitVec 32) 0#32)) (Scalar.extui (Scalar.cmpi .slt (64#32 : BitVec 32) 0#32))
  Scalar.select (Scalar.andi (Scalar.cmpi .ne s s64) (Scalar.cmpi .ne (Scalar.remsi v 64#32) 0#32))
    (Scalar.subi (Scalar.divsi v 64#32) 1#32) (Scalar.divsi v 64#32)

/-- The query block of a grid point: `i`, or the sequence's last block when `i` is past it. -/
def qw (n i : BitVec 32) : BitVec 32 :=
  Scalar.minsi i (Scalar.maxsi (Scalar.subi (fdiv (Scalar.subi (Scalar.addi n 64#32) 1#32)) 1#32) 0#32)

theorem maxsi_toInt (a b : BitVec 32) : (Scalar.maxsi a b).toInt = max a.toInt b.toInt := by
  simp only [Scalar.maxsi, IntOp.maxsi]; split <;> simp_all [BitVec.slt, BitVec.sle] <;> omega

theorem minsi_toInt (a b : BitVec 32) : (Scalar.minsi a b).toInt = min a.toInt b.toInt := by
  simp only [Scalar.minsi, IntOp.minsi]; split <;> simp_all [BitVec.slt, BitVec.sle] <;> omega

theorem toNat_of_toInt {a : BitVec 32} {k : Nat} (h : a.toInt = k) : a.toNat = k := by
  rw [BitVec.toInt_eq_toNat_cond] at h; split at h <;> omega

/-- The block index never passes the grid's own. -/
theorem qw_le (n : BitVec 32) (i : Nat) (hi : i < 26) : (qw n (BitVec.ofNat 32 i)).toNat < 26 := by
  have h := minsi_toInt (BitVec.ofNat 32 i) (Scalar.maxsi (Scalar.subi (fdiv (Scalar.subi (Scalar.addi n 64#32) 1#32)) 1#32) 0#32)
  rw [maxsi_toInt, toInt_ofNat_of_lt (by omega : i < 2 ^ (32 - 1))] at h
  have h0 : (0#32 : BitVec 32).toInt = 0 := rfl
  rw [h0] at h
  have : (qw n (BitVec.ofNat 32 i)).toNat = (min (i : Int) (max (Scalar.subi (fdiv (Scalar.subi (Scalar.addi n 64#32) 1#32)) 1#32).toInt 0)).toNat := by
    apply toNat_of_toInt
    rw [qw, h]
    omega
  omega

/-- The quotient of a positive word is the quotient of numbers. -/
theorem fdiv_pos (a : Nat) (h0 : 0 < a) (h : a < 2 ^ 31) : fdiv (BitVec.ofNat 32 a) = BitVec.ofNat 32 (a / 64) := by
  have e1 : Scalar.cmpi .sgt (BitVec.ofNat 32 a) 0#32 = 1#1 := by
    rw [scalar_cmpi_eq]; exact (cmpi_sgt_ofNat_eq_one_iff (w := 32) (a := a) (b := 0) (by omega) (by omega)).2 h0
  have e2 : Scalar.cmpi .slt (BitVec.ofNat 32 a) 0#32 = 0#1 := by
    rw [scalar_cmpi_eq]; exact (cmpi_slt_ofNat_eq_zero_iff (w := 32) (a := a) (b := 0) (by omega) (by omega)).2 (by omega)
  have hd : Scalar.divsi (BitVec.ofNat 32 a) 64#32 = BitVec.ofNat 32 (a / 64) := by
    have h1 := Affine.divsi (Affine.ofNat (e := (a : Int)) a ⟨rfl, by omega⟩) (Affine.ofNat (e := 64) 64 ⟨rfl, by omega⟩) ⟨rfl, by omega, by omega⟩
    have h2 : Affine.IsInt (BitVec.ofNat 32 (a / 64)) ((a : Int) / 64) := Affine.ofNat _ ⟨by omega, by omega⟩
    unfold Affine.IsInt at h1 h2
    exact BitVec.eq_of_toInt_eq (h1.trans h2.symm)
  have hs : (Scalar.cmpi .ne (Scalar.subi (Scalar.extui (1#1 : BitVec 1)) (Scalar.extui (0#1 : BitVec 1)) : BitVec 32) (Scalar.subi (Scalar.extui (Scalar.cmpi .sgt (64#32 : BitVec 32) 0#32)) (Scalar.extui (Scalar.cmpi .slt (64#32 : BitVec 32) 0#32)))) = 0#1 := by decide
  simp only [fdiv, e1, e2, hs]
  have hz (x : BitVec 1) : Scalar.andi 0#1 x = 0#1 := by simp [Scalar.andi, IntOp.andi]
  rw [hz, select_zero, hd]

/-- Before the sequence's end the block is the grid point's own (the length small enough that `n + 63` does not wrap). -/
theorem qw_eq (n : BitVec 32) (i : Nat) (hi : i < 26) (hn : n.toInt ≤ 2147483584) (h : 64 * (i : Int) < n.toInt) :
    (qw n (BitVec.ofNat 32 i)).toNat = i := by
  obtain ⟨a, ha, rfl⟩ : ∃ a : Nat, a ≤ 2147483584 ∧ n = BitVec.ofNat 32 a :=
    ⟨n.toNat, by rw [BitVec.toInt_eq_toNat_cond] at hn h; split at hn <;> omega, by simp⟩
  have hp : 64 * i < a := by rw [toInt_ofNat_of_lt (by omega)] at h; omega
  have e : Scalar.subi (Scalar.addi (BitVec.ofNat 32 a) 64#32) 1#32 = BitVec.ofNat 32 (a + 63) := by
    apply BitVec.eq_of_toNat_eq
    simp [Scalar.subi, Scalar.addi, IntOp.subi, IntOp.addi, BitVec.toNat_sub, BitVec.toNat_add]
    omega
  have e' : Scalar.subi (BitVec.ofNat 32 ((a + 63) / 64)) 1#32 = BitVec.ofNat 32 ((a + 63) / 64 - 1) := by
    apply BitVec.eq_of_toNat_eq
    simp [Scalar.subi, IntOp.subi, BitVec.toNat_sub]
    omega
  apply toNat_of_toInt
  rw [qw, e, fdiv_pos _ (by omega) (by omega), e', minsi_toInt, maxsi_toInt, toInt_ofNat_of_lt (by omega), toInt_ofNat_of_lt (by omega)]
  have h0 : (0#32 : BitVec 32).toInt = 0 := rfl
  rw [h0]
  omega

end Cert.Words

end
-- ==== Proof.KOk.lean ====
/- Every block the kernel's index maps name lies inside its array, whatever the lengths. -/
module

public import proofs.«01_k».proof.Proof.KRuns
public import proofs.«01_k».proof.Proof.Words

@[expose] public section

noncomputable section

namespace Cert.Kernel.Gen

open Idealize.ShloMosaic Idealize.ShloMosaic.WordCmp Cert.Kernel.Facts

variable {F : FTy → Type} [FloatOps F]

/-- The length of the grid point's sequence. -/
abbrev lenW (pf : pre0.Contents (Elt F)) (i : grid0.Coords) : BitVec 32 :=
  pf.at 0 (Rect.unit (s := S12) ![(Scalar.indexCast (BitVec.ofNat 32 (i 0).val)).toNat] S1.size (k0_off1_inb i)) numel1_S1

/-- The three query windows' block index, in closed form. -/
theorem map_q (pf : pre0.Contents (Elt F)) (i : grid0.Coords) :
    cc0_transform_0 k0_off1_inb numel1_S1 pf i = ![(i 0).val, (Words.qw (lenW pf i) (BitVec.ofNat 32 (i 1).val)).toNat, 0] := by
  have h : cc0_transform_0 k0_off1_inb numel1_S1 pf i = ![(BitVec.ofNat 32 (i 0).val).toNat, (Words.qw (lenW pf i) (BitVec.ofNat 32 (i 1).val)).toNat, 0] := rfl
  rw [h, toNat_ofNat_of_lt (lt_trans (i 0).isLt (by decide))]

theorem map_q1 (pf : pre0.Contents (Elt F)) (i : grid0.Coords) :
    cc0_transform_1 k0_off1_inb numel1_S1 pf i = cc0_transform_0 k0_off1_inb numel1_S1 pf i := rfl
theorem map_q2 (pf : pre0.Contents (Elt F)) (i : grid0.Coords) :
    cc0_transform_2 k0_off1_inb numel1_S1 pf i = cc0_transform_0 k0_off1_inb numel1_S1 pf i := rfl

theorem ok_pf (pf : pre0.Contents (Elt F)) : ok0 pf := by
  have hb (i : grid0.Coords) : (i 0).val < 12 := (i 0).isLt
  have hq (i : grid0.Coords) : (Words.qw (lenW pf i) (BitVec.ofNat 32 (i 1).val)).toNat < 26 := Words.qw_le _ _ (i 1).isLt
  refine ⟨fun i => ⟨fun a => ?_, .inr (Affine.block_words_dvd (of_decide_eq_true rfl) (by decide))⟩,
    fun i => ⟨fun a => ?_, .inl rfl⟩,
    fun i => ⟨fun a => ?_, .inr (Affine.block_words_dvd (of_decide_eq_true rfl) (by decide))⟩⟩ <;>
  · have := hb i; have := hq i
    simp only [map_q2, map_q1]
    rw [map_q]
    fin_cases a <;> simp <;> omega

theorem ok (m : (ℓ : Loc nD τ sig) → Buf (Elt F) ℓ) : Ok m := ok_pf _

end Cert.Kernel.Gen

end
-- ==== Proof.KIPoints.lean ====
/- The grid's points and blocks in closed form. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
/-- Window 3 (operand 4 (%1)) is fetched at the points ≡ 0 (mod 26), at any contents of the tables (its index map reads none). -/
theorem fetch0_3 (a : (pcfg0 (F := F)).Adm) : ∀ t : Fin (cfg0 a).N, ((cfg0 a).win 3).fetch t = true ↔ t.val % 26 = 0 :=
  (fun t => Pipeline.Window.fetchOf_reads cc0_transform_3 reads0_3 hreads0_3 0 (by decide) (by decide) (Pipeline.Window.sep_of_coord cc0_transform_3 0 0 (fun _ => rfl) (by decide)) (P := 26) (by decide) t : ∀ t : Fin grid0.N, Pipeline.Window.fetchOf grid0 false cc0_transform_3 t = true ↔ t.val % 26 = 0)
/-- Window 4 (operand 5 (%3)) is fetched at the first point only, at any contents of the tables (its index map reads none). -/
theorem fetch0_4 (a : (pcfg0 (F := F)).Adm) : ∀ t : Fin (cfg0 a).N, ((cfg0 a).win 4).fetch t = true ↔ t.val % 312 = 0 :=
  (fun t => Pipeline.Window.fetchOf_const cc0_transform_4 (fun _ _ => rfl) (n := 312) (by decide) t : ∀ t : Fin grid0.N, Pipeline.Window.fetchOf grid0 false cc0_transform_4 t = true ↔ t.val % 312 = 0)
/-- Window 5 (operand 6 (%2)) is fetched at the points ≡ 0 (mod 26), at any contents of the tables (its index map reads none). -/
theorem fetch0_5 (a : (pcfg0 (F := F)).Adm) : ∀ t : Fin (cfg0 a).N, ((cfg0 a).win 5).fetch t = true ↔ t.val % 26 = 0 :=
  (fun t => Pipeline.Window.fetchOf_reads cc0_transform_5 reads0_5 hreads0_5 0 (by decide) (by decide) (Pipeline.Window.sep_of_coord cc0_transform_5 0 0 (fun _ => rfl) (by decide)) (P := 26) (by decide) t : ∀ t : Fin grid0.N, Pipeline.Window.fetchOf grid0 false cc0_transform_5 t = true ↔ t.val % 26 = 0)
/-- Window 6 (result 0 (%6#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)
/-- Window 7 (result 1 (%6#1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_attn (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.KernelIdeal.Gen

end
-- ==== Proof.KIRuns.lean ====
/- What the two runs of the body share: @main up to the region, the prefetched lengths, the windows' blocks, and the
   two branch conditions. The conditions are `t0 ≥ n` and `t0 < n`: exactly one of them holds (`excl0`, `cover0`). -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KIPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S12 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).1 1).trans (((dats 0 c).arrAt_in 1 rfl _).trans ((hA c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The body's branch conditions -/

/-- The condition of the body's `scf.if` 0 (`k0_h1`): over WORDS the body reads from its tables or input SMEM windows
    (`v1`), so no function of the point — a case variable: a hypothesis of each run, a `by_cases`
    of the obligation and an `if` of `outsAt`, stated over the argument blocks' words there. -/
abbrev cond0_0 (i : grid0.Coords) (v1 : BitVec 32) : Prop := k0_cond1 i v1 = 1#1

/-- The condition of the body's `scf.if` 1 (`k0_h2`): over WORDS the body reads from its tables or input SMEM windows
    (`v1`), so no function of the point — a case variable: a hypothesis of each run, a `by_cases`
    of the obligation and an `if` of `outsAt`, stated over the argument blocks' words there. -/
abbrev cond0_1 (i : grid0.Coords) (v1 : BitVec 32) : Prop := k0_cond2 i v1 = 1#1

/-- The first grid token of a point, `64·i`, as the kernel computes it. -/
abbrev t0w (i : grid0.Coords) : BitVec 32 := Scalar.muli (BitVec.ofNat 32 (i 1).val) 64#32

/-- A truth value widened to a word and compared with zero is itself. -/
theorem ne_zero_extui (p : Bool) : Scalar.cmpi .ne (Scalar.extui (BitVec.ofBool p)) 0#32 = BitVec.ofBool p := by
  cases p <;> decide

theorem ofBool_eq_one (p : Bool) : BitVec.ofBool p = 1#1 ↔ p = true := by cases p <;> decide

/-- The first condition is `t0 ≥ n`. -/
theorem cond0_0_iff (i : grid0.Coords) (w : BitVec 32) : cond0_0 i w ↔ w.toInt ≤ (t0w i).toInt := by
  have h : k0_cond1 i w = BitVec.ofBool (decide (w.toInt ≤ (t0w i).toInt)) := ne_zero_extui _
  rw [cond0_0, h, ofBool_eq_one, decide_eq_true_eq]

/-- The second condition is `t0 < n`. -/
theorem cond0_1_iff (i : grid0.Coords) (w : BitVec 32) : cond0_1 i w ↔ (t0w i).toInt < w.toInt := by
  have h : k0_cond2 i w = BitVec.ofBool (decide ((t0w i).toInt < w.toInt)) := ne_zero_extui _
  rw [cond0_1, h, ofBool_eq_one, decide_eq_true_eq]

/-- The two conditions `t0 ≥ n` and `t0 < n` are not both true. -/
theorem excl0 {i : grid0.Coords} {w : BitVec 32} (h0 : cond0_0 i w) (h1 : cond0_1 i w) : False := by
  rw [cond0_0_iff] at h0; rw [cond0_1_iff] at h1; omega

/-- One of the two conditions `t0 ≥ n` and `t0 < n` is true. -/
theorem cover0 {i : grid0.Coords} {w : BitVec 32} (h0 : ¬cond0_0 i w) (h1 : ¬cond0_1 i w) : False := by
  rw [cond0_0_iff] at h0; rw [cond0_1_iff] at h1; omega

/-! ## The kernel body on any staging memrefs: a subtype the run finds -/

/-- One staging buffer of output window 6, through which its contents are stated (`View.read_writes_of_cover`: the
    choice does not matter). -/
abbrev VO0_6 : View sig .tc .vmem S1x2048x512 .bf16 := (Memref.whole cc0_stg6_0 : Memref sig .tc .vmem S1x2048x512 .bf16).view
/-- One staging buffer of output window 7, through which its contents are stated (`View.read_writes_of_cover`: the
    choice does not matter). -/
abbrev VO0_7 : View sig .tc .vmem S1x64x32 .f32 := (Memref.whole cc0_stg7_0 : Memref sig .tc .vmem S1x64x32 .f32).view
/-- Each window's current staging memref at point `t`, spelled as the pipeline passes it (`bodyAt0`), and its wholeness. -/
abbrev ms0_0 (hO : Ok m) (t : Fin (cfgM m hO).N) : Memref sig .tc .vmem S1x2048x512 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x64x32 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x64 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1792x512 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S12x1792 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1792x64 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x2048x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x64x32 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S2048x128 .f32 := Memref.whole cc0_scratch0
abbrev scM0_1 : Memref sig .tc .vmem S2048x128 .f32 := Memref.whole cc0_scratch1
abbrev scM0_2 : Memref sig .tc .vmem S2048x128 .f32 := Memref.whole cc0_scratch2
abbrev scM0_3 : Memref sig .tc .vmem S2048x512 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.KIRunA.lean ====
/- The body's run at a grid point past the sequence's end (`t0 ≥ n`): both output blocks are stored. -/
module

public import proofs.«01_k».proof.Proof.KIRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points all), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec F S1x2048x512 .fp8e4m3) (x1 : Vec F S1x64x32 .f32) (x2 : Vec F S1x2048x64 .bf16) (x3 : Vec F S1x1792x512 .fp8e4m3) (x4 : Vec F S12x1792 .f32) (x5 : Vec F S1x1792x64 .bf16) (xt0 : TbBuf0 (F := F) c tbM0_0) (hc0 : cond0_0 i (tbM0_0.view.readAt (Elt F) (Rect.unit (s := S12) (k0_off1 i) S1.size (k0_off1_inb i)).toLoadRect xt0 (Shape.Idx.first (numel1_S1.symm ▸ Nat.one_pos)))) (hc1 : ¬cond0_1 i (tbM0_0.view.readAt (Elt F) (Rect.unit (s := S12) (k0_off1 i) S1.size (k0_off1_inb i)).toLoadRect xt0 (Shape.Idx.first (numel1_S1.symm ▸ Nat.one_pos)))) :
    Σ' (L6 : List (View.Piece (Elt F) S1x2048x512 .bf16)), { L7 : List (View.Piece (Elt F) S1x64x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0) -∗ K ⟨⟩))
          ⊢ wp frame (wpE (defs₀ (F := F)) Variants.none c none) E (cc0_mla_attn i tbM0_0 htbM0_0 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_mla_attn_eq_skeleton]; unfold cc0_mla_attn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.KernelIdeal.Gen

end
-- ==== Proof.KIRunB.lean ====
/- The body's run at a grid point before the sequence's end (`t0 < n`): the attention is computed and stored. -/
module

public import proofs.«01_k».proof.Proof.KIRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1320000 in
/-- What the body's stores leave in each output's staging memref, as pieces (last first) IN CASE B (`scf.if` 0 not taken, `scf.if` 1 taken: points all), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec F S1x2048x512 .fp8e4m3) (x1 : Vec F S1x64x32 .f32) (x2 : Vec F S1x2048x64 .bf16) (x3 : Vec F S1x1792x512 .fp8e4m3) (x4 : Vec F S12x1792 .f32) (x5 : Vec F S1x1792x64 .bf16) (xt0 : TbBuf0 (F := F) c tbM0_0) (hc0 : ¬cond0_0 i (tbM0_0.view.readAt (Elt F) (Rect.unit (s := S12) (k0_off1 i) S1.size (k0_off1_inb i)).toLoadRect xt0 (Shape.Idx.first (numel1_S1.symm ▸ Nat.one_pos)))) (hc1 : cond0_1 i (tbM0_0.view.readAt (Elt F) (Rect.unit (s := S12) (k0_off1 i) S1.size (k0_off1_inb i)).toLoadRect xt0 (Shape.Idx.first (numel1_S1.symm ▸ Nat.one_pos)))) :
    Σ' (L6 : List (View.Piece (Elt F) S1x2048x512 .bf16)), { L7 : List (View.Piece (Elt F) S1x64x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0) -∗ K ⟨⟩))
          ⊢ wp frame (wpE (defs₀ (F := F)) Variants.none c none) E (cc0_mla_attn i tbM0_0 htbM0_0 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_mla_attn_eq_skeleton]; unfold cc0_mla_attn_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.KernelIdeal.Gen

end
-- ==== Proof.KIFrame.lean ====
/- The frame: from every memory the kernel runs to its end and leaves its arguments as they were; here also what
   each grid point leaves in the output blocks. -/
module

public import proofs.«01_k».proof.Proof.KIRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 6 tile its block (1 store of `S1x2048x512`, checked by the kernel's evaluation: Lib/Ring.lean `Piece.tiledL`, linear in the pieces, through a loop's `@[irreducible]` trip theorem too), so they cover it. -/
theorem cover0_A_6 (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec F S1x2048x512 .fp8e4m3) (x1 : Vec F S1x64x32 .f32) (x2 : Vec F S1x2048x64 .bf16) (x3 : Vec F S1x1792x512 .fp8e4m3) (x4 : Vec F S12x1792 .f32) (x5 : Vec F S1x1792x64 .bf16) (xt0 : TbBuf0 (F := F) c tbM0_0) (hc0 : cond0_0 i (tbM0_0.view.readAt (Elt F) (Rect.unit (s := S12) (k0_off1 i) S1.size (k0_off1_inb i)).toLoadRect xt0 (Shape.Idx.first (numel1_S1.symm ▸ Nat.one_pos)))) (hc1 : ¬cond0_1 i (tbM0_0.view.readAt (Elt F) (Rect.unit (s := S12) (k0_off1 i) S1.size (k0_off1_inb i)).toLoadRect xt0 (Shape.Idx.first (numel1_S1.symm ▸ Nat.one_pos)))) (y : S1x2048x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1).1 S1x2048x512.size (by sl_kernel_rfl) y

/-- What case A leaves in output 6's staging buffer: its pieces read back over junk. -/
def out0_A_6 (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec F S1x2048x512 .fp8e4m3) (x1 : Vec F S1x64x32 .f32) (x2 : Vec F S1x2048x64 .bf16) (x3 : Vec F S1x1792x512 .fp8e4m3) (x4 : Vec F S12x1792 .f32) (x5 : Vec F S1x1792x64 .bf16) (xt0 : TbBuf0 (F := F) c tbM0_0) (hc0 : cond0_0 i (tbM0_0.view.readAt (Elt F) (Rect.unit (s := S12) (k0_off1 i) S1.size (k0_off1_inb i)).toLoadRect xt0 (Shape.Idx.first (numel1_S1.symm ▸ Nat.one_pos)))) (hc1 : ¬cond0_1 i (tbM0_0.view.readAt (Elt F) (Rect.unit (s := S12) (k0_off1 i) S1.size (k0_off1_inb i)).toLoadRect xt0 (Shape.Idx.first (numel1_S1.symm ▸ Nat.one_pos)))) : Vec F S1x2048x512 .bf16 :=
  VO0_6.read (Elt F) (VO0_6.writes (Elt F) VO0_6.junk (kernelRun0_A c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1).1)

/-- Case A's pieces for output 7 tile its block (1 store of `S1x64x32`, checked by the kernel's evaluation: Lib/Ring.lean `Piece.tiledL`, linear in the pieces, through a loop's `@[irreducible]` trip theorem too), so they cover it. -/
theorem cover0_A_7 (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec F S1x2048x512 .fp8e4m3) (x1 : Vec F S1x64x32 .f32) (x2 : Vec F S1x2048x64 .bf16) (x3 : Vec F S1x1792x512 .fp8e4m3) (x4 : Vec F S12x1792 .f32) (x5 : Vec F S1x1792x64 .bf16) (xt0 : TbBuf0 (F := F) c tbM0_0) (hc0 : cond0_0 i (tbM0_0.view.readAt (Elt F) (Rect.unit (s := S12) (k0_off1 i) S1.size (k0_off1_inb i)).toLoadRect xt0 (Shape.Idx.first (numel1_S1.symm ▸ Nat.one_pos)))) (hc1 : ¬cond0_1 i (tbM0_0.view.readAt (Elt F) (Rect.unit (s := S12) (k0_off1 i) S1.size (k0_off1_inb i)).toLoadRect xt0 (Shape.Idx.first (numel1_S1.symm ▸ Nat.one_pos)))) (y : S1x64x32.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1).2.1 S1x64x32.size (by sl_kernel_rfl) y

/-- What case A leaves in output 7's staging buffer: its pieces read back over junk. -/
def out0_A_7 (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec F S1x2048x512 .fp8e4m3) (x1 : Vec F S1x64x32 .f32) (x2 : Vec F S1x2048x64 .bf16) (x3 : Vec F S1x1792x512 .fp8e4m3) (x4 : Vec F S12x1792 .f32) (x5 : Vec F S1x1792x64 .bf16) (xt0 : TbBuf0 (F := F) c tbM0_0) (hc0 : cond0_0 i (tbM0_0.view.readAt (Elt F) (Rect.unit (s := S12) (k0_off1 i) S1.size (k0_off1_inb i)).toLoadRect xt0 (Shape.Idx.first (numel1_S1.symm ▸ Nat.one_pos)))) (hc1 : ¬cond0_1 i (tbM0_0.view.readAt (Elt F) (Rect.unit (s := S12) (k0_off1 i) S1.size (k0_off1_inb i)).toLoadRect xt0 (Shape.Idx.first (numel1_S1.symm ▸ Nat.one_pos)))) : Vec F S1x64x32 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1).2.1)

/-- Case B's pieces for output 6 tile its block (1 store of `S1x2048x512`, checked by the kernel's evaluation: Lib/Ring.lean `Piece.tiledL`, linear in the pieces, through a loop's `@[irreducible]` trip theorem too), so they cover it. -/
theorem cover0_B_6 (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec F S1x2048x512 .fp8e4m3) (x1 : Vec F S1x64x32 .f32) (x2 : Vec F S1x2048x64 .bf16) (x3 : Vec F S1x1792x512 .fp8e4m3) (x4 : Vec F S12x1792 .f32) (x5 : Vec F S1x1792x64 .bf16) (xt0 : TbBuf0 (F := F) c tbM0_0) (hc0 : ¬cond0_0 i (tbM0_0.view.readAt (Elt F) (Rect.unit (s := S12) (k0_off1 i) S1.size (k0_off1_inb i)).toLoadRect xt0 (Shape.Idx.first (numel1_S1.symm ▸ Nat.one_pos)))) (hc1 : cond0_1 i (tbM0_0.view.readAt (Elt F) (Rect.unit (s := S12) (k0_off1 i) S1.size (k0_off1_inb i)).toLoadRect xt0 (Shape.Idx.first (numel1_S1.symm ▸ Nat.one_pos)))) (y : S1x2048x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1).1 S1x2048x512.size (by sl_kernel_rfl) y

/-- What case B leaves in output 6's staging buffer: its pieces read back over junk. -/
def out0_B_6 (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec F S1x2048x512 .fp8e4m3) (x1 : Vec F S1x64x32 .f32) (x2 : Vec F S1x2048x64 .bf16) (x3 : Vec F S1x1792x512 .fp8e4m3) (x4 : Vec F S12x1792 .f32) (x5 : Vec F S1x1792x64 .bf16) (xt0 : TbBuf0 (F := F) c tbM0_0) (hc0 : ¬cond0_0 i (tbM0_0.view.readAt (Elt F) (Rect.unit (s := S12) (k0_off1 i) S1.size (k0_off1_inb i)).toLoadRect xt0 (Shape.Idx.first (numel1_S1.symm ▸ Nat.one_pos)))) (hc1 : cond0_1 i (tbM0_0.view.readAt (Elt F) (Rect.unit (s := S12) (k0_off1 i) S1.size (k0_off1_inb i)).toLoadRect xt0 (Shape.Idx.first (numel1_S1.symm ▸ Nat.one_pos)))) : Vec F S1x2048x512 .bf16 :=
  VO0_6.read (Elt F) (VO0_6.writes (Elt F) VO0_6.junk (kernelRun0_B c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1).1)

/-- Case B's pieces for output 7 tile its block (1 store of `S1x64x32`, checked by the kernel's evaluation: Lib/Ring.lean `Piece.tiledL`, linear in the pieces, through a loop's `@[irreducible]` trip theorem too), so they cover it. -/
theorem cover0_B_7 (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec F S1x2048x512 .fp8e4m3) (x1 : Vec F S1x64x32 .f32) (x2 : Vec F S1x2048x64 .bf16) (x3 : Vec F S1x1792x512 .fp8e4m3) (x4 : Vec F S12x1792 .f32) (x5 : Vec F S1x1792x64 .bf16) (xt0 : TbBuf0 (F := F) c tbM0_0) (hc0 : ¬cond0_0 i (tbM0_0.view.readAt (Elt F) (Rect.unit (s := S12) (k0_off1 i) S1.size (k0_off1_inb i)).toLoadRect xt0 (Shape.Idx.first (numel1_S1.symm ▸ Nat.one_pos)))) (hc1 : cond0_1 i (tbM0_0.view.readAt (Elt F) (Rect.unit (s := S12) (k0_off1 i) S1.size (k0_off1_inb i)).toLoadRect xt0 (Shape.Idx.first (numel1_S1.symm ▸ Nat.one_pos)))) (y : S1x64x32.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1).2.1 S1x64x32.size (by sl_kernel_rfl) y

/-- What case B leaves in output 7's staging buffer: its pieces read back over junk. -/
def out0_B_7 (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec F S1x2048x512 .fp8e4m3) (x1 : Vec F S1x64x32 .f32) (x2 : Vec F S1x2048x64 .bf16) (x3 : Vec F S1x1792x512 .fp8e4m3) (x4 : Vec F S12x1792 .f32) (x5 : Vec F S1x1792x64 .bf16) (xt0 : TbBuf0 (F := F) c tbM0_0) (hc0 : ¬cond0_0 i (tbM0_0.view.readAt (Elt F) (Rect.unit (s := S12) (k0_off1 i) S1.size (k0_off1_inb i)).toLoadRect xt0 (Shape.Idx.first (numel1_S1.symm ▸ Nat.one_pos)))) (hc1 : cond0_1 i (tbM0_0.view.readAt (Elt F) (Rect.unit (s := S12) (k0_off1 i) S1.size (k0_off1_inb i)).toLoadRect xt0 (Shape.Idx.first (numel1_S1.symm ▸ Nat.one_pos)))) : Vec F S1x64x32 .f32 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1).2.1)

/-! ## What the outputs hold after each point -/

/-- What the outputs' staging buffers hold after the body at point `t` (as a tuple, in window order): the run's contents at
    the point's memrefs and input blocks, the case its WORD conditions select there. -/
def outsAt0 (hO : Ok m) (c : Dev nD) (t : Fin (cfgM m hO).N) : Vec F S1x2048x512 .bf16 × Vec F S1x64x32 .f32 :=
  if h0 : cond0_0 (grid0.coords t) (tbM0_0.view.readAt (Elt F) (Rect.unit (s := S12) (k0_off1 (grid0.coords t)) S1.size (k0_off1_inb (grid0.coords t))).toLoadRect (tbl m 0) (Shape.Idx.first (numel1_S1.symm ▸ Nat.one_pos))) then
    if h1 : cond0_1 (grid0.coords t) (tbM0_0.view.readAt (Elt F) (Rect.unit (s := S12) (k0_off1 (grid0.coords t)) S1.size (k0_off1_inb (grid0.coords t))).toLoadRect (tbl m 0) (Shape.Idx.first (numel1_S1.symm ▸ Nat.one_pos))) then
      (excl0 h0 h1).elim
    else
      (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (tbl m 0) h0 h1, out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (tbl m 0) h0 h1)
  else
    if h1 : cond0_1 (grid0.coords t) (tbM0_0.view.readAt (Elt F) (Rect.unit (s := S12) (k0_off1 (grid0.coords t)) S1.size (k0_off1_inb (grid0.coords t))).toLoadRect (tbl m 0) (Shape.Idx.first (numel1_S1.symm ▸ Nat.one_pos))) then
      (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (tbl m 0) h0 h1, out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (tbl m 0) h0 h1)
    else
      (cover0 h0 h1).elim

/-- `outsAt0` at a point of case A: that case's contents. -/
theorem outsAt0_A (hO : Ok m) (c : Dev nD) (t : Fin (cfgM m hO).N) (h0 : cond0_0 (grid0.coords t) (tbM0_0.view.readAt (Elt F) (Rect.unit (s := S12) (k0_off1 (grid0.coords t)) S1.size (k0_off1_inb (grid0.coords t))).toLoadRect (tbl m 0) (Shape.Idx.first (numel1_S1.symm ▸ Nat.one_pos)))) (h1 : ¬cond0_1 (grid0.coords t) (tbM0_0.view.readAt (Elt F) (Rect.unit (s := S12) (k0_off1 (grid0.coords t)) S1.size (k0_off1_inb (grid0.coords t))).toLoadRect (tbl m 0) (Shape.Idx.first (numel1_S1.symm ▸ Nat.one_pos)))) :
    outsAt0 m hO c t = (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (tbl m 0) h0 h1, out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (tbl m 0) h0 h1) := by
  unfold outsAt0; exact (dif_pos h0).trans ((dif_neg h1).trans rfl)

/-- `outsAt0` at a point of case B: that case's contents. -/
theorem outsAt0_B (hO : Ok m) (c : Dev nD) (t : Fin (cfgM m hO).N) (h0 : ¬cond0_0 (grid0.coords t) (tbM0_0.view.readAt (Elt F) (Rect.unit (s := S12) (k0_off1 (grid0.coords t)) S1.size (k0_off1_inb (grid0.coords t))).toLoadRect (tbl m 0) (Shape.Idx.first (numel1_S1.symm ▸ Nat.one_pos)))) (h1 : cond0_1 (grid0.coords t) (tbM0_0.view.readAt (Elt F) (Rect.unit (s := S12) (k0_off1 (grid0.coords t)) S1.size (k0_off1_inb (grid0.coords t))).toLoadRect (tbl m 0) (Shape.Idx.first (numel1_S1.symm ▸ Nat.one_pos)))) :
    outsAt0 m hO c t = (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (tbl m 0) h0 h1, out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (tbl m 0) h0 h1) := by
  unfold outsAt0; exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t).1
    | ⟨7, _⟩ => (outsAt0 m hO c t).2
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t).1 := by dsimp only [dats]; try rfl
theorem after0_7 (hO : Ok m) (c : Dev nD) (t : Fin (cfgM m hO).N) : (dats m hO 0 c).after 7 t = (outsAt0 m hO c t).2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq, PhiA0_eq]
  by_cases h0 : cond0_0 (grid0.coords t) (tbM0_0.view.readAt (Elt F) (Rect.unit (s := S12) (k0_off1 (grid0.coords t)) S1.size (k0_off1_inb (grid0.coords t))).toLoadRect (tbl m 0) (Shape.Idx.first (numel1_S1.symm ▸ Nat.one_pos)))
  · by_cases h1 : cond0_1 (grid0.coords t) (tbM0_0.view.readAt (Elt F) (Rect.unit (s := S12) (k0_off1 (grid0.coords t)) S1.size (k0_off1_inb (grid0.coords t))).toLoadRect (tbl m 0) (Shape.Idx.first (numel1_S1.symm ▸ Nat.one_pos)))
    · exact (excl0 h0 h1).elim
    · rw [outsAt0_A m hO c t h0 h1]
      unfold out0_A_6 out0_A_7; (try dsimp only)
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) h0 h1).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HT0]; · iexact HT0
      iintro ⟨H0, H1, H2, H3, H4, H5, ⟨%e6, H6⟩, ⟨%e7, H7⟩, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _ _ _)
  · by_cases h1 : cond0_1 (grid0.coords t) (tbM0_0.view.readAt (Elt F) (Rect.unit (s := S12) (k0_off1 (grid0.coords t)) S1.size (k0_off1_inb (grid0.coords t))).toLoadRect (tbl m 0) (Shape.Idx.first (numel1_S1.symm ▸ Nat.one_pos)))
    · rw [outsAt0_B m hO c t h0 h1]
      unfold out0_B_6 out0_B_7; (try dsimp only)
      iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) h0 h1).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [HT0]; · iexact HT0
      iintro ⟨H0, H1, H2, H3, H4, H5, ⟨%e6, H6⟩, ⟨%e7, H7⟩, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _ _)
    · exact (cover0 h0 h1).elim

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- No window is idle at any point: one of the two conditions holds, and both outputs are stored under each. -/
theorem idle0_false (pf : pre0.Contents (Elt F)) (i : grid0.Coords) : idle0 pf 6 i = false ∧ idle0 pf 7 i = false := by
  have h : (!(k0_cond1 i (pf.atD 0 (k0_off1 i)) == 1#1) && !(k0_cond2 i (pf.atD 0 (k0_off1 i)) == 1#1)) = false := by
    by_cases h0 : k0_cond1 i (pf.atD 0 (k0_off1 i)) = 1#1
    · rw [h0]; rfl
    · by_cases h1 : k0_cond2 i (pf.atD 0 (k0_off1 i)) = 1#1
      · rw [h1]; exact Bool.and_false _
      · exact (cover0 h0 h1).elim
  exact ⟨h, h⟩
theorem leaves6 (hO : Ok m) (c : Dev nD) (t : Fin (cfgM m hO).N) :
    (dats m hO 0 c).leavesExact 6 t = owns (c : Thread nD τ) (ms0_6 m hO t) fullShare ((dats m hO 0 c).after 6 t) := by
  unfold Dat.leavesExact
  rw [show (cfgM m hO).idle 6 ((cfgM m hO).grid.coords t) = false from (idle0_false _ _).1]
  rfl
theorem leaves7 (hO : Ok m) (c : Dev nD) (t : Fin (cfgM m hO).N) :
    (dats m hO 0 c).leavesExact 7 t = owns (c : Thread nD τ) (ms0_7 m hO t) fullShare ((dats m hO 0 c).after 7 t) := by
  unfold Dat.leavesExact
  rw [show (cfgM m hO).idle 7 ((cfgM m hO).grid.coords t) = false from (idle0_false _ _).2]
  rfl

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl ?_ fun _ => ?_
  · exact .rfl
  · have e : bodyPost m hO c t = iprop((dats m hO 0 c).Φ t.succ ∗ (dats m hO 0 c).owesAt () t.succ
        ∗ owns (c : Thread nD τ) (ms0_0 m hO t) fullShare ((dats m hO 0 c).after 0 t)
        ∗ owns (c : Thread nD τ) (ms0_1 m hO t) fullShare ((dats m hO 0 c).after 1 t)
        ∗ owns (c : Thread nD τ) (ms0_2 m hO t) fullShare ((dats m hO 0 c).after 2 t)
        ∗ owns (c : Thread nD τ) (ms0_3 m hO t) fullShare ((dats m hO 0 c).after 3 t)
        ∗ owns (c : Thread nD τ) (ms0_4 m hO t) fullShare ((dats m hO 0 c).after 4 t)
        ∗ owns (c : Thread nD τ) (ms0_5 m hO t) fullShare ((dats m hO 0 c).after 5 t)
        ∗ (dats m hO 0 c).leavesExact 6 t ∗ (dats m hO 0 c).leavesExact 7 t) := by
      rw [leaves6, leaves7]; rfl
    rw [e]
    exact .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Gen

end
-- ==== Proof.KIOk.lean ====
/- Every block the kernel's index maps name lies inside its array, whatever the lengths. -/
module

public import proofs.«01_k».proof.Proof.KIRuns
public import proofs.«01_k».proof.Proof.Words

@[expose] public section

noncomputable section

namespace Cert.KernelIdeal.Gen

open Idealize.ShloMosaic Idealize.ShloMosaic.WordCmp Cert.KernelIdeal.Facts

variable {F : FTy → Type} [FloatOps F] [Named F]

/-- The length of the grid point's sequence. -/
abbrev lenW (pf : pre0.Contents (Elt F)) (i : grid0.Coords) : BitVec 32 :=
  pf.at 0 (Rect.unit (s := S12) ![(Scalar.indexCast (BitVec.ofNat 32 (i 0).val)).toNat] S1.size (k0_off1_inb i)) numel1_S1

/-- The three query windows' block index, in closed form. -/
theorem map_q (pf : pre0.Contents (Elt F)) (i : grid0.Coords) :
    cc0_transform_0 k0_off1_inb numel1_S1 pf i = ![(i 0).val, (Words.qw (lenW pf i) (BitVec.ofNat 32 (i 1).val)).toNat, 0] := by
  have h : cc0_transform_0 k0_off1_inb numel1_S1 pf i = ![(BitVec.ofNat 32 (i 0).val).toNat, (Words.qw (lenW pf i) (BitVec.ofNat 32 (i 1).val)).toNat, 0] := rfl
  rw [h, toNat_ofNat_of_lt (lt_trans (i 0).isLt (by decide))]

theorem map_q1 (pf : pre0.Contents (Elt F)) (i : grid0.Coords) :
    cc0_transform_1 k0_off1_inb numel1_S1 pf i = cc0_transform_0 k0_off1_inb numel1_S1 pf i := rfl
theorem map_q2 (pf : pre0.Contents (Elt F)) (i : grid0.Coords) :
    cc0_transform_2 k0_off1_inb numel1_S1 pf i = cc0_transform_0 k0_off1_inb numel1_S1 pf i := rfl

theorem ok_pf (pf : pre0.Contents (Elt F)) : ok0 pf := by
  have hb (i : grid0.Coords) : (i 0).val < 12 := (i 0).isLt
  have hq (i : grid0.Coords) : (Words.qw (lenW pf i) (BitVec.ofNat 32 (i 1).val)).toNat < 26 := Words.qw_le _ _ (i 1).isLt
  refine ⟨fun i => ⟨fun a => ?_, .inr (Affine.block_words_dvd (of_decide_eq_true rfl) (by decide))⟩,
    fun i => ⟨fun a => ?_, .inl rfl⟩,
    fun i => ⟨fun a => ?_, .inr (Affine.block_words_dvd (of_decide_eq_true rfl) (by decide))⟩⟩ <;>
  · have := hb i; have := hq i
    simp only [map_q2, map_q1]
    rw [map_q]
    fin_cases a <;> simp <;> omega

theorem ok (m : (ℓ : Loc nD τ sig) → Buf (Elt F) ℓ) : Ok m := ok_pf _

end Cert.KernelIdeal.Gen

end
-- ==== Proof.KITrip.lean ====
/- One trip of the kernel's loop over key tiles: what the three running buffers hold after it, as functions of the blocks read
   and of what they held before; and an induction principle over the trips. -/
module

public import proofs.«01_k».proof.Proof.Gen.KernelIdeal.Loops
public import Idealize.ShloMosaic.Lib.ValueIdx
public import Idealize.ShloMosaic.Lib.Pipeline.Value
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Gen

open Idealize.ShloMosaic Idealize.ShloMosaic.TcCoe Idealize.SL.Sem Idealize.ShloMosaic.Tactic

variable {F : FTy → Type} [FloatOps F] [Named F]

section Tile
variable (i : grid0.Coords) (v2 : BitVec 32) (v432 : IVec S2048x256 32) (k : Fin (k0_t1_loop i).trips)
variable (y3 : Vec F S1x2048x512 .fp8e4m3) (y5 : Vec F S1x2048x64 .bf16) (y6 : Vec F S1x1792x512 .fp8e4m3) (y7 : Vec F S12x1792 .f32)
  (y8 : Vec F S1x1792x64 .bf16) (y11 M L : Vec F S2048x128 .f32) (A : Vec F S2048x512 .f32)

/-- The trip's tile of latent key codes. -/
def tC : Vec F S1x256x512 .fp8e4m3 := View.ld y6 (Rect.unit (s := S1x1792x512) (k0_off2 i k) S1x256x512.size (k0_off2_inb i k))
/-- The trip's tile of rope keys. -/
def tR : Vec F S1x256x64 .bf16 := View.ld y8 (Rect.unit (s := S1x1792x64) (k0_off3 i k) S1x256x64.size (k0_off3_inb i k))
/-- The trip's tile of key scales. -/
def tS : Vec F S1x256 .f32 := View.ld y7 (Rect.unit (s := S12x1792) (k0_off4 i k) S1x256.size (k0_off4_inb i k))
/-- The trip's masked scores. -/
def tX : FVec F S2048x256 .f32 := k0_pay6 i (k0_pay91 v2) v432 0#32 1#32 k (tC i k y6) (tR i k y8) (tS i k y7) y3 y5 y11 y11
/-- The running maximum after the trip. -/
def tM : FVec F S2048x128 .f32 := k0_pay7 i (k0_pay91 v2) v432 0#32 1#32 k (tC i k y6) (tR i k y8) (tS i k y7) y3 y5 y11 y11 M
/-- The running sum after the trip. -/
def tL : FVec F S2048x128 .f32 := k0_pay94 (tX i v2 v432 k y3 y5 y6 y7 y8 y11) (tM i v2 v432 k y3 y5 y6 y7 y8 y11 M)
  (subf M (tM i v2 v432 k y3 y5 y6 y7 y8 y11 M)) k0_pay9 L
/-- The running weighted sum after the trip. -/
def tA : FVec F S2048x512 .f32 := k0_pay96 (k0_pay4 (tC i k y6)) (k0_pay5 (tS i k y7)) (tX i v2 v432 k y3 y5 y6 y7 y8 y11)
  (tM i v2 v432 k y3 y5 y6 y7 y8 y11 M) (subf M (tM i v2 v432 k y3 y5 y6 y7 y8 y11 M)) k0_pay9 A
end Tile

theorem hz2 : (![0, 0] : Fin 2 → Nat) = fun _ => 0 := funext fun a => by fin_cases a <;> rfl
theorem hz3 : (![0, 0, 0] : Fin 3 → Nat) = fun _ => 0 := funext fun a => by fin_cases a <;> rfl

section Trip
variable (𝒱 : Variants) (c : Dev nD) (bd : Option 𝒱.V) (i : grid0.Coords) (arg2 : Memref sig .tc .smem S12 .i32) (harg2 : arg2.IsWhole) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole) (arg0 : BitVec 32) (v2 : BitVec 32) (v404 : FVec F S2048x512 .f32) (v432 : IVec S2048x256 32) (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg11 : BufTy.Contents (Elt F) arg11.view.ty)

/-- The trip leaves each running buffer at the tile's function of what the three held. -/
theorem trip_read (k : Fin (k0_t1_loop i).trips) (acc : BitVec 32) (f12 : BufTy.Contents (Elt F) arg12.view.ty) (f13 : BufTy.Contents (Elt F) arg13.view.ty) (f14 : BufTy.Contents (Elt F) arg14.view.ty) :
    arg12.view.read (Elt F) (arg12.view.writes (Elt F) f12 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v2 v404 v432 X_arg3 X_arg5 X_arg6 X_arg7 X_arg8 X_arg11 k acc f12 f13 f14).1)
        = tM i v2 v432 k (arg3.view.read (Elt F) X_arg3) (arg5.view.read (Elt F) X_arg5) (arg6.view.read (Elt F) X_arg6) (arg7.view.read (Elt F) X_arg7) (arg8.view.read (Elt F) X_arg8) (arg11.view.read (Elt F) X_arg11) (arg12.view.read (Elt F) f12)
    ∧ arg13.view.read (Elt F) (arg13.view.writes (Elt F) f13 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v2 v404 v432 X_arg3 X_arg5 X_arg6 X_arg7 X_arg8 X_arg11 k acc f12 f13 f14).2.1)
        = tL i v2 v432 k (arg3.view.read (Elt F) X_arg3) (arg5.view.read (Elt F) X_arg5) (arg6.view.read (Elt F) X_arg6) (arg7.view.read (Elt F) X_arg7) (arg8.view.read (Elt F) X_arg8) (arg11.view.read (Elt F) X_arg11) (arg12.view.read (Elt F) f12) (arg13.view.read (Elt F) f13)
    ∧ arg14.view.read (Elt F) (arg14.view.writes (Elt F) f14 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v2 v404 v432 X_arg3 X_arg5 X_arg6 X_arg7 X_arg8 X_arg11 k acc f12 f13 f14).2.2)
        = tA i v2 v432 k (arg3.view.read (Elt F) X_arg3) (arg5.view.read (Elt F) X_arg5) (arg6.view.read (Elt F) X_arg6) (arg7.view.read (Elt F) X_arg7) (arg8.view.read (Elt F) X_arg8) (arg11.view.read (Elt F) X_arg11) (arg12.view.read (Elt F) f12) (arg14.view.read (Elt F) f14) := by
  unfold tripL_k0_t1 trip_k0_t1
  dsimp only
  sl_unfold_words
  refine ⟨Eq.trans (View.read_writes_full _ _ inb_S2048x128_S2048x128_0_0 _ _) ?_,
    Eq.trans (View.read_writes_full _ _ inb_S2048x128_S2048x128_0_0 _ _) ?_,
    Eq.trans (View.read_writes_full _ _ inb_S2048x512_S2048x512_0_0 _ _) ?_⟩
  · unfold tM tC tR tS k0_pay95
    rw [shapeCast_self]
    simp only [View.readAt_eq_ld, View.ld_unit_zero (S := S2048x128) hz2, View.ld_unit_zero (S := S1x2048x512) hz3, View.ld_unit_zero (S := S1x2048x64) hz3]
    rfl
  · unfold tL tX tM tC tR tS
    simp only [View.readAt_eq_ld, View.ld_unit_zero (S := S2048x128) hz2, View.ld_unit_zero (S := S1x2048x512) hz3, View.ld_unit_zero (S := S1x2048x64) hz3]
    rfl
  · unfold tA tX tM tC tR tS
    simp only [View.readAt_eq_ld, View.ld_unit_zero (S := S2048x128) hz2, View.ld_unit_zero (S := S2048x512) hz2, View.ld_unit_zero (S := S1x2048x512) hz3, View.ld_unit_zero (S := S1x2048x64) hz3]
    rfl

/-- Induction over the trips: what holds of the three running buffers at entry and is kept by every trip holds after any number
    of them. -/
theorem st_ind (G12 : BufTy.Contents (Elt F) arg12.view.ty) (G13 : BufTy.Contents (Elt F) arg13.view.ty) (G14 : BufTy.Contents (Elt F) arg14.view.ty) (init : BitVec 32)
    (P : ℕ → Vec F S2048x128 .f32 → Vec F S2048x128 .f32 → Vec F S2048x512 .f32 → Prop)
    (h0 : P 0 (arg12.view.read (Elt F) G12) (arg13.view.read (Elt F) G13) (arg14.view.read (Elt F) G14))
    (hs : ∀ (k : Fin (k0_t1_loop i).trips) M L A, P k.val M L A → P (k.val + 1)
      (tM i v2 v432 k (arg3.view.read (Elt F) X_arg3) (arg5.view.read (Elt F) X_arg5) (arg6.view.read (Elt F) X_arg6) (arg7.view.read (Elt F) X_arg7) (arg8.view.read (Elt F) X_arg8) (arg11.view.read (Elt F) X_arg11) M)
      (tL i v2 v432 k (arg3.view.read (Elt F) X_arg3) (arg5.view.read (Elt F) X_arg5) (arg6.view.read (Elt F) X_arg6) (arg7.view.read (Elt F) X_arg7) (arg8.view.read (Elt F) X_arg8) (arg11.view.read (Elt F) X_arg11) M L)
      (tA i v2 v432 k (arg3.view.read (Elt F) X_arg3) (arg5.view.read (Elt F) X_arg5) (arg6.view.read (Elt F) X_arg6) (arg7.view.read (Elt F) X_arg7) (arg8.view.read (Elt F) X_arg8) (arg11.view.read (Elt F) X_arg11) M A)) :
    ∀ j ≤ (k0_t1_loop i).trips, P j
      (arg12.view.read (Elt F) (arg12.view.writes (Elt F) G12 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v2 v404 v432 X_arg3 X_arg5 X_arg6 X_arg7 X_arg8 X_arg11 G12 G13 G14 init j).2.1))
      (arg13.view.read (Elt F) (arg13.view.writes (Elt F) G13 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v2 v404 v432 X_arg3 X_arg5 X_arg6 X_arg7 X_arg8 X_arg11 G12 G13 G14 init j).2.2.1))
      (arg14.view.read (Elt F) (arg14.view.writes (Elt F) G14 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v2 v404 v432 X_arg3 X_arg5 X_arg6 X_arg7 X_arg8 X_arg11 G12 G13 G14 init j).2.2.2)) := by
  intro j
  induction j with
  | zero => intro _; exact h0
  | succ j ih =>
    intro hj
    have h := hs ⟨j, hj⟩ _ _ _ (ih (Nat.le_of_succ_le hj))
    have e := st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg0 v2 v404 v432 X_arg3 X_arg5 X_arg6 X_arg7 X_arg8 X_arg11 G12 G13 G14 init ⟨j, hj⟩
    dsimp only at e
    rw [e]
    dsimp only
    obtain ⟨e1, e2, e3⟩ := trip_read (F := F) 𝒱 c bd i arg2 harg2 arg3 harg3 arg4 harg4 arg5 harg5 arg6 harg6 arg7 harg7 arg8 harg8 arg9 harg9 arg10 harg10 arg11 harg11 arg12 harg12 arg13 harg13 arg14 harg14 arg0 v2 v404 v432 X_arg3 X_arg5 X_arg6 X_arg7 X_arg8 X_arg11 ⟨j, hj⟩ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v2 v404 v432 X_arg3 X_arg5 X_arg6 X_arg7 X_arg8 X_arg11 G12 G13 G14 init j).1
      (arg12.view.writes (Elt F) G12 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v2 v404 v432 X_arg3 X_arg5 X_arg6 X_arg7 X_arg8 X_arg11 G12 G13 G14 init j).2.1)
      (arg13.view.writes (Elt F) G13 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v2 v404 v432 X_arg3 X_arg5 X_arg6 X_arg7 X_arg8 X_arg11 G12 G13 G14 init j).2.2.1)
      (arg14.view.writes (Elt F) G14 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 v2 v404 v432 X_arg3 X_arg5 X_arg6 X_arg7 X_arg8 X_arg11 G12 G13 G14 init j).2.2.2)
    rw [View.writes_append, View.writes_append, View.writes_append, e1, e2, e3]
    exact h
end Trip

end Cert.KernelIdeal.Gen

end
-- ==== Proof.Alg.lean ====
/- The running softmax over extended reals: a running maximum, sum and weighted sum, rescaled tile by tile, end at the softmax
   of the whole row, whatever the scores are (infinities included). -/
module

public import Idealize.ShloMosaic.PureOps.Ideal.Laws

@[expose] public section

noncomputable section

namespace Cert.Alg

open Idealize.ShloMosaic

/-- The softmax scale `1 / √192`. -/
def sg : ℝ := (Real.sqrt 192)⁻¹
/-- The scale for base two: `1 / √192 / log 2`. -/
def c2 : ℝ := (Real.sqrt 192)⁻¹ * (Real.log 2)⁻¹

theorem sg_pos : 0 < sg := inv_pos.2 (Real.sqrt_pos.2 (by norm_num))
theorem c2_pos : 0 < c2 := mul_pos sg_pos (inv_pos.2 (Real.log_pos (by norm_num)))

/-- The kernel's weight of a shifted score. -/
def E (y : EReal) : EReal := Ideal.exp2 (y * (c2 : EReal))

theorem E_bot : E ⊥ = 0 := by
  rw [E, EReal.bot_mul_coe_of_pos c2_pos]; rfl
theorem E_bot_sub (m : EReal) : E (⊥ - m) = 0 := by rw [EReal.bot_sub, E_bot]
theorem E_sub_top (x : EReal) : E (x - ⊤) = 0 := by rw [EReal.sub_top, E_bot]

/-- In base `e`, the scale folded back: `2 ^ (r · c2) = e ^ (r · sg)`. -/
theorem E_coe (r : ℝ) : E r = (Real.exp (r * sg) : ℝ) := by
  rw [E, ← EReal.coe_mul, Ideal.exp2_coe]
  congr 1
  show (2 : ℝ) ^ (r * c2) = _
  rw [Real.rpow_def_of_pos (by norm_num)]
  have h2 : Real.log 2 ≠ 0 := (Real.log_pos (by norm_num)).ne'
  congr 1
  unfold c2 sg
  field_simp

/-- A weight of a score at most the maximum is a nonnegative real. -/
theorem E_real {x m : EReal} (h : x ≤ m) (hm : m ≠ ⊥) : ∃ r : ℝ, 0 ≤ r ∧ E (x - m) = r := by
  induction m with
  | bot => exact absurd rfl hm
  | top => exact ⟨0, le_rfl, by rw [E_sub_top]; rfl⟩
  | coe m =>
    induction x with
    | bot => exact ⟨0, le_rfl, by rw [E_bot_sub]; rfl⟩
    | top => exact absurd h (by simp)
    | coe x => exact ⟨_, (Real.exp_pos _).le, by rw [← EReal.coe_sub, E_coe]⟩

/-- Rescaling a weight to a greater maximum. -/
theorem E_rescale {x m m' : EReal} (h : x ≤ m) (h' : m ≤ m') (hm : m ≠ ⊥) : E (x - m) * E (m - m') = E (x - m') := by
  induction m' with
  | bot => exact absurd (le_bot_iff.1 h') hm
  | top => rw [E_sub_top, E_sub_top, mul_zero]
  | coe m' =>
    induction m with
    | bot => exact absurd rfl hm
    | top => exact absurd h' (by simp)
    | coe m =>
      induction x with
      | bot => rw [E_bot_sub, E_bot_sub, zero_mul]
      | top => exact absurd h (by simp)
      | coe x =>
        rw [← EReal.coe_sub, ← EReal.coe_sub, ← EReal.coe_sub, E_coe, E_coe, E_coe, ← EReal.coe_mul, ← Real.exp_add]
        congr 2; ring

/-- A nonnegative real factor distributes over any sum. -/
theorem sum_mul_real {ι : Type*} (s : Finset ι) (f : ι → EReal) {r : ℝ} (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih, mul_comm,
      EReal.left_distrib_of_nonneg_of_ne_top (by exact_mod_cast hr) (EReal.coe_ne_top _), mul_comm, mul_comm (r : EReal)]

theorem sup_range_add (x : ℕ → EReal) (N T : ℕ) :
    (Finset.range (N + T)).sup x = (Finset.range N).sup x ⊔ (Finset.range T).sup fun k => x (N + k) := by
  apply le_antisymm
  · apply Finset.sup_le
    intro k hk
    rw [Finset.mem_range] at hk
    rcases lt_or_ge k N with h | h
    · exact (Finset.le_sup (Finset.mem_range.2 h)).trans le_sup_left
    · have := Finset.le_sup (f := fun k => x (N + k)) (Finset.mem_range.2 (show k - N < T by omega))
      simp only [show N + (k - N) = k by omega] at this
      exact this.trans le_sup_right
  · apply sup_le
    · exact Finset.sup_mono (Finset.range_subset_range.2 (by omega))
    · apply Finset.sup_le
      intro k hk
      rw [Finset.mem_range] at hk
      exact Finset.le_sup (f := x) (Finset.mem_range.2 (by omega))

/-- The running maximum after `N` keys, from the floor `b`. -/
def mx (b : ℝ) (x : ℕ → EReal) (N : ℕ) : EReal := max (b : EReal) ((Finset.range N).sup x)
/-- The running sum after `N` keys. -/
def sm (b : ℝ) (x : ℕ → EReal) (N : ℕ) : EReal := ∑ k ∈ Finset.range N, E (x k - mx b x N)
/-- The running weighted sum after `N` keys. -/
def ac (b : ℝ) (x cs v : ℕ → EReal) (N : ℕ) : EReal := ∑ k ∈ Finset.range N, E (x k - mx b x N) * cs k * v k

theorem mx_ne_bot (b : ℝ) (x : ℕ → EReal) (N : ℕ) : mx b x N ≠ ⊥ :=
  ne_bot_of_le_ne_bot (EReal.coe_ne_bot b) (le_max_left _ _)
theorem le_mx (b : ℝ) (x : ℕ → EReal) {N k : ℕ} (h : k < N) : x k ≤ mx b x N :=
  (Finset.le_sup (f := x) (Finset.mem_range.2 h)).trans (le_max_right _ _)

theorem mx_zero (b : ℝ) (x : ℕ → EReal) : mx b x 0 = b := by simp [mx]
theorem sm_zero (b : ℝ) (x : ℕ → EReal) : sm b x 0 = 0 := by simp [sm]
theorem ac_zero (b : ℝ) (x cs v : ℕ → EReal) : ac b x cs v 0 = 0 := by simp [ac]

theorem mx_step (b : ℝ) (x : ℕ → EReal) (N T : ℕ) :
    mx b x (N + T) = max (mx b x N) ((Finset.range T).sup fun k => x (N + k)) := by
  rw [mx, mx, sup_range_add, max_assoc]

theorem mx_le (b : ℝ) (x : ℕ → EReal) (N T : ℕ) : mx b x N ≤ mx b x (N + T) := by
  rw [mx_step]; exact le_max_left _ _

theorem sm_step (b : ℝ) (x : ℕ → EReal) (N T : ℕ) :
    sm b x (N + T) = sm b x N * E (mx b x N - mx b x (N + T)) + ∑ k ∈ Finset.range T, E (x (N + k) - mx b x (N + T)) := by
  obtain ⟨r, hr, e⟩ := E_real (mx_le b x N T) (mx_ne_bot b x (N + T))
  rw [sm, Finset.sum_range_add, sm, e, sum_mul_real _ _ hr, ← e]
  congr 1
  apply Finset.sum_congr rfl
  intro k hk
  exact (E_rescale (le_mx b x (Finset.mem_range.1 hk)) (mx_le b x N T) (mx_ne_bot b x N)).symm

theorem ac_step (b : ℝ) (x cs v : ℕ → EReal) (N T : ℕ) :
    ac b x cs v (N + T) = ac b x cs v N * E (mx b x N - mx b x (N + T))
      + ∑ k ∈ Finset.range T, E (x (N + k) - mx b x (N + T)) * cs (N + k) * v (N + k) := by
  obtain ⟨r, hr, e⟩ := E_real (mx_le b x N T) (mx_ne_bot b x (N + T))
  rw [ac, Finset.sum_range_add, ac, e, sum_mul_real _ _ hr, ← e]
  congr 1
  apply Finset.sum_congr rfl
  intro k hk
  rw [← E_rescale (le_mx b x (Finset.mem_range.1 hk)) (mx_le b x N T) (mx_ne_bot b x N)]
  ac_rfl

/-! ## The plain softmax -/

/-- The row's greatest scaled score. -/
def rm (x : ℕ → EReal) (P : ℕ) : EReal := (Finset.range P).sup fun k => x k * (sg : EReal)
/-- A key's unnormalized weight. -/
def re (x : ℕ → EReal) (P k : ℕ) : EReal := Ideal.exp (x k * (sg : EReal) - rm x P)
/-- The weights' sum. -/
def rt (x : ℕ → EReal) (P : ℕ) : EReal := ∑ k ∈ Finset.range P, re x P k

theorem exp_bot : Ideal.exp ⊥ = 0 := rfl

theorem mul_sg_mono : Monotone fun y : EReal => y * (sg : EReal) := fun _ _ h =>
  mul_le_mul_of_nonneg_right h (by exact_mod_cast sg_pos.le)

theorem rm_eq (x : ℕ → EReal) (P : ℕ) : rm x P = (Finset.range P).sup x * (sg : EReal) :=
  (Finset.comp_sup_eq_sup_comp_of_is_total (fun y : EReal => y * (sg : EReal)) mul_sg_mono
    (EReal.bot_mul_coe_of_pos sg_pos)).symm

/-- Keys past the last visible one (score `⊥`) count for nothing in the maximum. -/
theorem sup_tail (x : ℕ → EReal) {P N : ℕ} (hx : ∀ k, P ≤ k → x k = ⊥) (h : P ≤ N) :
    (Finset.range N).sup x = (Finset.range P).sup x := by
  obtain ⟨T, rfl⟩ := Nat.exists_eq_add_of_le h
  rw [sup_range_add, sup_eq_left]
  exact (Finset.sup_le fun k _ => by rw [hx _ (by omega)]).trans bot_le

/-- The weights of a row with a real greatest score, as reals: the kernel's are the plain ones times one positive real. -/
theorem real_case (b : ℝ) (x : ℕ → EReal) {P : ℕ} {M : ℝ} (hM : (Finset.range P).sup x = M) :
    ∃ (γ L : ℝ), 0 < γ ∧ 0 < L ∧ (∀ k < P, E (x k - mx b x P) = re x P k * γ) ∧ rt x P = L
      ∧ mx b x P = (max b M : ℝ) ∧ γ = Real.exp ((M - max b M) * sg) := by
  have hmx : mx b x P = ((max b M : ℝ) : EReal) := by rw [mx, hM]; exact (EReal.coe_strictMono.monotone.map_max (a := b) (b := M)).symm
  have hrm : rm x P = ((M * sg : ℝ) : EReal) := by rw [rm_eq, hM, EReal.coe_mul]
  have hle (k : ℕ) (hk : k < P) : x k ≤ M := hM ▸ Finset.le_sup (f := x) (Finset.mem_range.2 hk)
  have hre (k : ℕ) (hk : k < P) : re x P k = E (x k - M) := by
    have := hle k hk
    unfold re
    rw [hrm]
    induction h : x k with
    | bot => rw [EReal.bot_mul_coe_of_pos sg_pos, EReal.bot_sub, E_bot_sub]; rfl
    | top => rw [h] at this; exact absurd this (by simp)
    | coe y =>
      rw [← EReal.coe_sub, E_coe, ← EReal.coe_mul, ← EReal.coe_sub]
      show ((Real.exp _ : ℝ) : EReal) = _
      congr 2; ring
  have hreal (k : ℕ) (hk : k < P) : ∃ r : ℝ, 0 ≤ r ∧ re x P k = r := by
    rw [hre k hk]; exact E_real (hle k hk) (EReal.coe_ne_bot M)
  have hsum : ∀ Q ≤ P, ∃ r : ℝ, 0 ≤ r ∧ ∑ k ∈ Finset.range Q, re x P k = r ∧ ∀ k < Q, re x P k ≤ (r : EReal) := by
    intro Q
    induction Q with
    | zero => intro _; exact ⟨0, le_rfl, by simp, by simp⟩
    | succ Q ih =>
      intro hQ
      obtain ⟨r, hr, e, hk⟩ := ih (by omega)
      obtain ⟨s, hs, e'⟩ := hreal Q (by omega)
      refine ⟨r + s, by positivity, by rw [Finset.sum_range_succ, e, e', EReal.coe_add], fun k hk' => ?_⟩
      rcases Nat.lt_succ_iff_lt_or_eq.1 hk' with h | rfl
      · exact (hk k h).trans (by exact_mod_cast (by linarith : r ≤ r + s))
      · rw [e']; exact_mod_cast (by linarith : s ≤ r + s)
  obtain ⟨L, hL, eL, hkL⟩ := hsum P le_rfl
  have hne : (Finset.range P).Nonempty := by
    rcases Nat.eq_zero_or_pos P with rfl | h
    · simp at hM
    · exact ⟨0, Finset.mem_range.2 h⟩
  obtain ⟨k0, hk0, e0⟩ := Finset.exists_mem_eq_sup _ hne x
  have hk0' := Finset.mem_range.1 hk0
  have h1 : (1 : EReal) ≤ L := by
    have := hkL k0 hk0'
    rw [hre k0 hk0', ← e0, hM, ← EReal.coe_sub, sub_self, E_coe, zero_mul, Real.exp_zero] at this
    exact_mod_cast this
  refine ⟨Real.exp ((M - max b M) * sg), L, Real.exp_pos _, lt_of_lt_of_le one_pos (by exact_mod_cast h1), fun k hk => ?_, eL, hmx, rfl⟩
  rw [hre k hk, ← E_coe, EReal.coe_sub, hmx,
    E_rescale (hle k hk) (by exact_mod_cast le_max_right b M) (EReal.coe_ne_bot M)]

/-- With no finite greatest score every weight is zero, in the kernel and in the plain form. -/
theorem zero_case (b : ℝ) (x : ℕ → EReal) {P : ℕ} (hM : (Finset.range P).sup x = ⊥ ∨ (Finset.range P).sup x = ⊤) :
    (∀ k < P, E (x k - mx b x P) = 0) ∧ (∀ k < P, re x P k = 0) := by
  rcases hM with hM | hM
  · have hx (k : ℕ) (hk : k < P) : x k = ⊥ := le_bot_iff.1 (hM ▸ Finset.le_sup (f := x) (Finset.mem_range.2 hk))
    exact ⟨fun k hk => by rw [hx k hk, E_bot_sub], fun k hk => by
      rw [re, hx k hk, EReal.bot_mul_coe_of_pos sg_pos, EReal.bot_sub, exp_bot]⟩
  · have h1 : mx b x P = ⊤ := by rw [mx, hM]; exact max_eq_right le_top
    have h2 : rm x P = ⊤ := by rw [rm_eq, hM, EReal.top_mul_coe_of_pos sg_pos]
    exact ⟨fun k _ => by rw [h1, E_sub_top], fun k _ => by rw [re, h2, EReal.sub_top, exp_bot]⟩

theorem rm_infinite_or {x : ℕ → EReal} {P : ℕ} :
    ((Finset.range P).sup x = ⊥ ∨ (Finset.range P).sup x = ⊤) ∨ ∃ M : ℝ, (Finset.range P).sup x = M := by
  induction h : (Finset.range P).sup x with
  | bot => exact .inl (.inl rfl)
  | top => exact .inl (.inr rfl)
  | coe M => exact .inr ⟨M, rfl⟩

/-- The weighted average: the kernel's running form is the plain softmax. -/
theorem out_eq (b : ℝ) (x cs v : ℕ → EReal) (P : ℕ) :
    ac b x cs v P * Ideal.div 1 (sm b x P) = ∑ k ∈ Finset.range P, re x P k * Ideal.div 1 (rt x P) * cs k * v k := by
  rcases rm_infinite_or (x := x) (P := P) with h | ⟨M, hM⟩
  · obtain ⟨h1, h2⟩ := zero_case b x h
    have e1 : ac b x cs v P = 0 := Finset.sum_eq_zero fun k hk => by rw [h1 k (Finset.mem_range.1 hk), zero_mul, zero_mul]
    rw [e1, zero_mul]
    exact (Finset.sum_eq_zero fun k hk => by rw [h2 k (Finset.mem_range.1 hk), zero_mul, zero_mul, zero_mul]).symm
  · obtain ⟨γ, L, hγ, hL, hE, hrt, -, -⟩ := real_case b x hM
    have hsm : sm b x P = ((L * γ : ℝ) : EReal) := by
      rw [sm, EReal.coe_mul, ← hrt, rt, sum_mul_real _ _ hγ.le]
      exact Finset.sum_congr rfl fun k hk => hE k (Finset.mem_range.1 hk)
    rw [hsm, hrt, Ideal.div_coe (mul_pos hL hγ).ne', Ideal.div_coe hL.ne', one_mul, one_mul, ac,
      sum_mul_real _ _ (by positivity)]
    apply Finset.sum_congr rfl
    intro k hk
    rw [hE k (Finset.mem_range.1 hk)]
    have : (γ : EReal) * ((1 / (L * γ) : ℝ) : EReal) = ((1 / L : ℝ) : EReal) := by
      rw [← EReal.coe_mul]; congr 1; field_simp
    rw [← this]
    ac_rfl

/-- The log of the sum: the kernel's running form is the plain one. -/
theorem lse_eq (b : ℝ) (x : ℕ → EReal) (P : ℕ) :
    mx b x P * (sg : EReal) + Ideal.log (sm b x P) = rm x P + Ideal.log (rt x P) := by
  have hl0 : Ideal.log 0 = ⊥ := by
    show (if (0 : ℝ) ≤ 0 then (⊥ : EReal) else _) = ⊥
    rw [if_pos le_rfl]
  rcases rm_infinite_or (x := x) (P := P) with h | ⟨M, hM⟩
  · obtain ⟨h1, h2⟩ := zero_case b x h
    have e1 : sm b x P = 0 := Finset.sum_eq_zero fun k hk => h1 k (Finset.mem_range.1 hk)
    have e2 : rt x P = 0 := Finset.sum_eq_zero fun k hk => h2 k (Finset.mem_range.1 hk)
    rw [e1, e2, hl0, EReal.add_bot, EReal.add_bot]
  · obtain ⟨γ, L, hγ, hL, hE, hrt, hmx, eγ⟩ := real_case b x hM
    have hsm : sm b x P = ((L * γ : ℝ) : EReal) := by
      rw [sm, EReal.coe_mul, ← hrt, rt, sum_mul_real _ _ hγ.le]
      exact Finset.sum_congr rfl fun k hk => hE k (Finset.mem_range.1 hk)
    have hlog (r : ℝ) (hr : 0 < r) : Ideal.log (r : EReal) = (Real.log r : ℝ) := by
      show (if r ≤ 0 then (⊥ : EReal) else _) = _
      rw [if_neg hr.not_ge]
    rw [hsm, hrt, hlog _ (mul_pos hL hγ), hlog _ hL, hmx, rm_eq, hM, ← EReal.coe_mul, ← EReal.coe_mul, ← EReal.coe_add,
      ← EReal.coe_add, Real.log_mul hL.ne' hγ.ne', eγ, Real.log_exp]
    congr 1; ring

/-! ## Keys past the query change nothing -/

theorem re_bot (x : ℕ → EReal) (N : ℕ) {k : ℕ} (h : x k = ⊥) : re x N k = 0 := by
  rw [re, h, EReal.bot_mul_coe_of_pos sg_pos, EReal.bot_sub, exp_bot]

theorem rm_congr {x x' : ℕ → EReal} {P N N' : ℕ} (hN : P ≤ N) (hN' : P ≤ N') (hx : ∀ k, P ≤ k → x k = ⊥) (hx' : ∀ k, P ≤ k → x' k = ⊥)
    (he : ∀ k < P, x k = x' k) : rm x N = rm x' N' := by
  rw [rm_eq, rm_eq, sup_tail x hx hN, sup_tail x' hx' hN']
  congr 1
  exact Finset.sup_congr rfl fun k hk => he k (Finset.mem_range.1 hk)

theorem sum_tail (f : ℕ → EReal) {P N : ℕ} (hN : P ≤ N) (hf : ∀ k, P ≤ k → f k = 0) :
    ∑ k ∈ Finset.range N, f k = ∑ k ∈ Finset.range P, f k :=
  (Finset.sum_subset (Finset.range_mono hN) fun k _ hk => hf k (by simpa using hk)).symm

section Tail
variable {x x' : ℕ → EReal} {P N N' : ℕ} (hN : P ≤ N) (hN' : P ≤ N') (hx : ∀ k, P ≤ k → x k = ⊥) (hx' : ∀ k, P ≤ k → x' k = ⊥)
  (he : ∀ k < P, x k = x' k)
include hN hN' hx hx' he

theorem re_congr {k : ℕ} (hk : k < P) : re x N k = re x' N' k := by
  rw [re, re, rm_congr hN hN' hx hx' he, he k hk]

theorem rt_congr : rt x N = rt x' N' := by
  rw [rt, rt, sum_tail _ hN fun k hk => re_bot x N (hx k hk), sum_tail _ hN' fun k hk => re_bot x' N' (hx' k hk)]
  exact Finset.sum_congr rfl fun k hk => re_congr hN hN' hx hx' he (Finset.mem_range.1 hk)

/-- The softmax-weighted sum over `N` keys is the one over `N'` when both score rows end at key `P`. -/
theorem out_congr {cs cs' v v' : ℕ → EReal} (hcs : ∀ k < P, cs k = cs' k) (hv : ∀ k < P, v k = v' k) :
    ∑ k ∈ Finset.range N, re x N k * Ideal.div 1 (rt x N) * cs k * v k
      = ∑ k ∈ Finset.range N', re x' N' k * Ideal.div 1 (rt x' N') * cs' k * v' k := by
  rw [rt_congr hN hN' hx hx' he,
    sum_tail _ hN fun k hk => by rw [re_bot x N (hx k hk), zero_mul, zero_mul, zero_mul],
    sum_tail _ hN' fun k hk => by rw [re_bot x' N' (hx' k hk), zero_mul, zero_mul, zero_mul]]
  refine Finset.sum_congr rfl fun k hk => ?_
  have hk := Finset.mem_range.1 hk
  rw [re_congr hN hN' hx hx' he hk, hcs k hk, hv k hk]

theorem lse_congr : rm x N + Ideal.log (rt x N) = rm x' N' + Ideal.log (rt x' N') := by
  rw [rt_congr hN hN' hx hx' he, rm_congr hN hN' hx hx' he]
end Tail

end Cert.Alg

end
-- ==== Proof.KIVal.lean ====
/- One trip of the kernel's loop over key tiles, over the extended reals and at an index: the three running buffers go from the
   running softmax of the first `256 k` keys to that of the first `256 (k + 1)`. -/
module

public import proofs.«01_k».proof.Proof.KITrip
public import proofs.«01_k».proof.Proof.Alg
public import Idealize.ShloMosaic.Lib.Pointwise
public import Idealize.ShloMosaic.Lib.WordCmp
public import Idealize.ShloMosaic.Lib.Pipeline.ValueKit.Tiles
public import Idealize.ShloMosaic.PureOps.IdealRules
public import Idealize.ShloMosaic.PureOps.Ideal.Laws

@[expose] public section

set_option maxRecDepth 16384

noncomputable section

namespace Cert.KernelIdeal.Gen

open Idealize.ShloMosaic Idealize.ShloMosaic.TcCoe Idealize.SL.Sem Idealize.ShloMosaic.WordCmp

/-! ## Literals and words -/

theorem ninf_val : Ideal.ofBits FTy.f32 4286578688#32 = (⊥ : EReal) := by
  simp [Ideal.ofBits, Ideal.ieee]
theorem log2e_val : (Named.named (F := Ideal) (φ := .f32) κ "sm_scale_log2e" 1037384597#32 : EReal) = (Alg.c2 : EReal) :=
  IdealRules.named_const.ideal_named_scalar _ _ _ _ rfl

/-- The trips of the loop over key tiles. -/
theorem trips1 (i : grid0.Coords) : (k0_t1_loop i).trips = (64 * (i 1).val + 319) / 256 := by
  have h : ∀ v : Fin 26, (k0_t1_loop (fun a => match a with | 0 => (0 : Fin 12) | 1 => v)).trips = (64 * v.val + 319) / 256 := by
    decide +kernel
  exact h (i 1)

theorem trips1_le (i : grid0.Coords) (k : Fin (k0_t1_loop i).trips) : k.val < 7 := by
  have h : k.val < (k0_t1_loop i).trips := k.isLt
  have e := trips1 i
  have h1 : (i 1).val < 26 := (i 1).isLt
  omega

theorem tile_word (k : ℕ) (h : k < 7) : Scalar.muli (Scf.iv 0#32 1#32 k) 256#32 = BitVec.ofNat 32 (256 * k) := by
  have h' : ∀ k : Fin 7, Scalar.muli (Scf.iv 0#32 1#32 k.val) 256#32 = BitVec.ofNat 32 (256 * k.val) := by decide +kernel
  exact h' ⟨k, h⟩

theorem tile_nat (k : ℕ) (h : k < 7) : (Scalar.indexCast (Scalar.muli (Scf.iv 0#32 1#32 k) 256#32)).toNat = 256 * k := by
  have h' : ∀ k : Fin 7, (Scalar.indexCast (Scalar.muli (Scf.iv 0#32 1#32 k.val) 256#32)).toNat = 256 * k.val := by decide +kernel
  exact h' ⟨k, h⟩

/-! ## One row of the keys -/

section Row
variable (t0 : ℕ) (b : Fin 12) (y3 : Vec Ideal S1x2048x512 .fp8e4m3) (y5 : Vec Ideal S1x2048x64 .bf16) (y6 : Vec Ideal S1x1792x512 .fp8e4m3)
  (y7 : Vec Ideal S12x1792 .f32) (y8 : Vec Ideal S1x1792x64 .bf16) (qs : EReal) (r : Fin 2048)

/-- The score of a row's query against key `k`: minus infinity at keys past the query's position. -/
def kx (k : ℕ) : EReal :=
  if h : k < 1792 ∧ k ≤ t0 + r.val / 32 then
    ((∑ d : Fin 512, y3 (ix3 0 r d) * y6 (ix3 0 ⟨k, h.1⟩ d)) * qs) * y7 (ix2 b ⟨k, h.1⟩)
      + ∑ e : Fin 64, y5 (ix3 0 r e) * y8 (ix3 0 ⟨k, h.1⟩ e)
  else ⊥
/-- The scale of key `k`. -/
def kcs (k : ℕ) : EReal := if h : k < 1792 then y7 (ix2 b ⟨k, h⟩) else 0
/-- The code of key `k` at column `c`. -/
def kv (c : Fin 512) (k : ℕ) : EReal := if h : k < 1792 then y6 (ix3 0 ⟨k, h⟩ c) else 0

end Row

/-! ## The tiles -/

section Tiles
variable (i : grid0.Coords) (k : Fin (k0_t1_loop i).trips) (y6 : Vec Ideal S1x1792x512 .fp8e4m3)
  (y7 : Vec Ideal S12x1792 .f32) (y8 : Vec Ideal S1x1792x64 .bf16)

theorem tile_lt (l : Fin 256) : 256 * k.val + l.val < 1792 := by
  have := trips1_le i k; omega

theorem tC_at (l : Fin 256) (d : Fin 512) : tC i k y6 (ix3 0 l d) = y6 (ix3 0 ⟨256 * k.val + l.val, tile_lt i k l⟩ d) := by
  unfold tC
  rw [View.ld_apply]
  refine congrArg y6 (funext fun a => Fin.ext ?_)
  rw [Rect.idx_unit_val]
  have h := tile_nat k.val (trips1_le i k)
  fin_cases a
  · rfl
  · show (Scalar.indexCast (Scalar.muli (Scf.iv 0#32 1#32 k.val) 256#32)).toNat + l.val = _
    rw [h]; rfl
  · exact Nat.zero_add _

theorem tR_at (l : Fin 256) (d : Fin 64) : tR i k y8 (ix3 0 l d) = y8 (ix3 0 ⟨256 * k.val + l.val, tile_lt i k l⟩ d) := by
  unfold tR
  rw [View.ld_apply]
  refine congrArg y8 (funext fun a => Fin.ext ?_)
  rw [Rect.idx_unit_val]
  have h := tile_nat k.val (trips1_le i k)
  fin_cases a
  · rfl
  · show (Scalar.indexCast (Scalar.muli (Scf.iv 0#32 1#32 k.val) 256#32)).toNat + l.val = _
    rw [h]; rfl
  · exact Nat.zero_add _

theorem tS_at (l : Fin 256) : tS i k y7 (ix2 0 l) = y7 (ix2 (i 0) ⟨256 * k.val + l.val, tile_lt i k l⟩) := by
  unfold tS
  rw [View.ld_apply]
  refine congrArg y7 (funext fun a => Fin.ext ?_)
  rw [Rect.idx_unit_val]
  have h := tile_nat k.val (trips1_le i k)
  have h0 : (Scalar.indexCast (BitVec.ofNat 32 (i 0).val)).toNat = (i 0).val := by
    have h' : ∀ k : Fin 12, (Scalar.indexCast (BitVec.ofNat 32 k.val)).toNat = k.val := by decide +kernel
    exact h' (i 0)
  fin_cases a
  · show (Scalar.indexCast (BitVec.ofNat 32 (i 0).val)).toNat + 0 = _
    rw [h0]; rfl
  · show (Scalar.indexCast (Scalar.muli (Scf.iv 0#32 1#32 k.val) 256#32)).toNat + l.val = _
    rw [h]; rfl
end Tiles

/-! ## The payloads at an index -/

theorem sup_fold (f : ℕ → EReal) (T : ℕ) :
    (Finset.univ : Finset (Fin T)).fold max ⊥ (fun x => f x.val) = (Finset.range T).sup f := by
  show (Finset.univ : Finset (Fin T)).sup (fun x => f x.val) = _
  refine le_antisymm (Finset.sup_le fun x _ => Finset.le_sup (f := f) (Finset.mem_range.2 x.isLt))
    (Finset.sup_le fun x hx => ?_)
  exact Finset.le_sup (f := fun x : Fin T => f x.val) (Finset.mem_univ ⟨x, Finset.mem_range.1 hx⟩)

theorem p7_at (i : grid0.Coords) (a : IVec S2048x256 32) (b : IVec S2048x256 32) (k : Fin (k0_t1_loop i).trips)
    (y3 : Vec Ideal S1x2048x512 .fp8e4m3) (y5 : Vec Ideal S1x2048x64 .bf16) (C : Vec Ideal S1x256x512 .fp8e4m3)
    (R : Vec Ideal S1x256x64 .bf16) (S : Vec Ideal S1x256 .f32) (y11 M : Vec Ideal S2048x128 .f32) (r : Fin 2048) (l : Fin 128) :
    k0_pay7 i a b 0#32 1#32 k C R S y3 y5 y11 y11 M (ix2 r l)
      = max (M (ix2 r l)) ((Finset.univ : Finset (Fin 256)).fold max ⊥ fun x => k0_pay6 i a b 0#32 1#32 k C R S y3 y5 y11 y11 (ix2 r x)) := by
  unfold k0_pay7
  generalize k0_pay6 i a b 0#32 1#32 k C R S y3 y5 y11 y11 = X
  pointwise
  rw [ninf_val]

theorem p93_at (X : FVec Ideal S2048x256 .f32) (M : FVec Ideal S2048x128 .f32) (r : Fin 2048) (m : EReal)
    (hM : ∀ l, M (ix2 r l) = m) (l : Fin 256) : k0_pay93 X M (ix2 r l) = Alg.E (X (ix2 r l) - m) := by
  pointwise [k0_pay93]
  rw [log2e_val]
  simp only [hM, dite_eq_ite, ite_self]
  rfl

theorem p94_at (X : FVec Ideal S2048x256 .f32) (M N L : FVec Ideal S2048x128 .f32) (r : Fin 2048) (m n : EReal)
    (hM : ∀ l, M (ix2 r l) = m) (hN : ∀ l, N (ix2 r l) = n) (l : Fin 128) :
    k0_pay94 X M (subf N M) k0_pay9 L (ix2 r l) = L (ix2 r l) * Alg.E (n - m) + ∑ x : Fin 256, Alg.E (X (ix2 r x) - m) := by
  have h := p93_at X M r m hM
  unfold k0_pay94
  revert h
  generalize k0_pay93 X M = P
  intro h
  pointwise [k0_pay9, k0_pay92]
  rw [log2e_val, hM, hN]
  refine congrArg₂ (· + ·) rfl (Finset.sum_congr rfl fun x _ => h x)

theorem p96_at (C : Vec Ideal S1x256x512 .fp8e4m3) (S : Vec Ideal S1x256 .f32) (X : FVec Ideal S2048x256 .f32)
    (M N : FVec Ideal S2048x128 .f32) (A : FVec Ideal S2048x512 .f32) (r : Fin 2048) (m n : EReal)
    (hM : ∀ l, M (ix2 r l) = m) (hN : ∀ l, N (ix2 r l) = n) (c : Fin 512) :
    k0_pay96 (k0_pay4 C) (k0_pay5 S) X M (subf N M) k0_pay9 A (ix2 r c)
      = A (ix2 r c) * Alg.E (n - m) + ∑ x : Fin 256, Alg.E (X (ix2 r x) - m) * S (ix2 0 x) * C (ix3 0 x c) := by
  have h := p93_at X M r m hM
  unfold k0_pay96
  revert h
  generalize k0_pay93 X M = P
  intro h
  pointwise [k0_pay9, k0_pay92, k0_pay4, k0_pay5]
  simp only [log2e_val, hM, hN, dite_eq_ite, ite_self, h]
  rfl

/-! ## The trip -/

section Step
variable (i : grid0.Coords) (v432 : IVec S2048x256 32) (hv : ∀ r l, v432 (ix2 r l) = BitVec.ofNat 32 l.val)
  (y3 : Vec Ideal S1x2048x512 .fp8e4m3) (y5 : Vec Ideal S1x2048x64 .bf16) (y6 : Vec Ideal S1x1792x512 .fp8e4m3) (y7 : Vec Ideal S12x1792 .f32)
  (y8 : Vec Ideal S1x1792x64 .bf16) (y11 : Vec Ideal S2048x128 .f32) (qs : Fin 2048 → EReal) (hq : ∀ r l, y11 (ix2 r l) = qs r)
include hv hq

theorem tX_at (k : Fin (k0_t1_loop i).trips) (r : Fin 2048) (l : Fin 256) :
    tX i (Scalar.muli (BitVec.ofNat 32 (i 1).val) 64#32) v432 k y3 y5 y6 y7 y8 y11 (ix2 r l)
      = kx (64 * (i 1).val) (i 0) y3 y5 y6 y7 y8 (qs r) r (256 * k.val + l.val) := by
  unfold tX
  pointwise [k0_pay6, k0_pay91, k0_pay5, k0_pay4]
  have h1 : (i 1).val < 26 := (i 1).isLt
  have hk := trips1_le i k
  have hl := tile_lt i k l
  have hl' := l.isLt
  have hr : r.val / 32 < 64 := by have := r.isLt; omega
  have hw : Scalar.muli (BitVec.ofNat 32 (i 1).val) 64#32 = BitVec.ofNat 32 ((i 1).val * 64) := muli_ofNat _ _
  rw [hv, tile_word _ hk, hw, addi_ofNat, addi_ofNat, cmpi_sle_ofNat (by omega) (by omega), select_decide, ninf_val]
  simp only [hq, dite_eq_ite, ite_self, tC_at, tR_at, tS_at]
  unfold kx
  by_cases h : l.val + 256 * k.val ≤ (i 1).val * 64 + r.val / 32
  · rw [if_pos h, dif_pos ⟨hl, by omega⟩]
  · rw [if_neg h, dif_neg (by omega)]

/-- What the three running buffers hold after the first `j` tiles. -/
def Inv (b : ℝ) (t0 : ℕ) (bb : Fin 12) (y3 : Vec Ideal S1x2048x512 .fp8e4m3) (y5 : Vec Ideal S1x2048x64 .bf16)
    (y6 : Vec Ideal S1x1792x512 .fp8e4m3) (y7 : Vec Ideal S12x1792 .f32) (y8 : Vec Ideal S1x1792x64 .bf16) (qs : Fin 2048 → EReal)
    (j : ℕ) (M L : Vec Ideal S2048x128 .f32) (A : Vec Ideal S2048x512 .f32) : Prop :=
  ∀ r, (∀ l, M (ix2 r l) = Alg.mx b (kx t0 bb y3 y5 y6 y7 y8 (qs r) r) (256 * j))
    ∧ (∀ l, L (ix2 r l) = Alg.sm b (kx t0 bb y3 y5 y6 y7 y8 (qs r) r) (256 * j))
    ∧ ∀ c, A (ix2 r c) = Alg.ac b (kx t0 bb y3 y5 y6 y7 y8 (qs r) r) (kcs bb y7) (kv y6 c) (256 * j)

theorem inv_step (b : ℝ) (k : Fin (k0_t1_loop i).trips) (M L : Vec Ideal S2048x128 .f32) (A : Vec Ideal S2048x512 .f32)
    (h : Inv b (64 * (i 1).val) (i 0) y3 y5 y6 y7 y8 qs k.val M L A) :
    Inv b (64 * (i 1).val) (i 0) y3 y5 y6 y7 y8 qs (k.val + 1)
      (tM i (Scalar.muli (BitVec.ofNat 32 (i 1).val) 64#32) v432 k y3 y5 y6 y7 y8 y11 M)
      (tL i (Scalar.muli (BitVec.ofNat 32 (i 1).val) 64#32) v432 k y3 y5 y6 y7 y8 y11 M L)
      (tA i (Scalar.muli (BitVec.ofNat 32 (i 1).val) 64#32) v432 k y3 y5 y6 y7 y8 y11 M A) := by
  intro r
  obtain ⟨hM, hL, hA⟩ := h r
  have hX := tX_at i v432 hv y3 y5 y6 y7 y8 y11 qs hq k r
  have hM' : ∀ l, tM i (Scalar.muli (BitVec.ofNat 32 (i 1).val) 64#32) v432 k y3 y5 y6 y7 y8 y11 M (ix2 r l)
      = Alg.mx b (kx (64 * (i 1).val) (i 0) y3 y5 y6 y7 y8 (qs r) r) (256 * k.val + 256) := by
    intro l
    rw [Alg.mx_step, ← sup_fold, ← hM l]
    refine (p7_at i _ _ k _ _ _ _ _ _ M r l).trans (congrArg _ (congrArg (fun f => Finset.fold max ⊥ f Finset.univ) (funext fun x => hX x)))
  refine ⟨hM', fun l => ?_, fun c => ?_⟩
  · refine (p94_at _ _ _ _ r _ _ hM' hM l).trans ?_
    rw [hL]
    show _ = Alg.sm b _ (256 * k.val + 256)
    rw [Alg.sm_step, Finset.sum_range]
    refine congrArg _ (Finset.sum_congr rfl fun x _ => by rw [hX])
  · refine (p96_at _ _ _ _ _ _ r _ _ hM' hM c).trans ?_
    rw [hA]
    show _ = Alg.ac b _ _ _ (256 * k.val + 256)
    rw [Alg.ac_step, Finset.sum_range]
    refine congrArg _ (Finset.sum_congr rfl fun x _ => ?_)
    have hl := tile_lt i k x
    have e1 : kcs (i 0) y7 (256 * k.val + x.val) = y7 (ix2 (i 0) ⟨256 * k.val + x.val, hl⟩) := dif_pos hl
    have e2 : kv y6 c (256 * k.val + x.val) = y6 (ix3 0 ⟨256 * k.val + x.val, hl⟩ c) := dif_pos hl
    rw [hX, tS_at, tC_at, e1, e2]

end Step

end Cert.KernelIdeal.Gen

end
-- ==== Proof.KILast.lean ====
/- What the kernel stores into its two output blocks after the loop over key tiles, over the extended reals and at an index. -/
module

public import proofs.«01_k».proof.Proof.KIVal

@[expose] public section

set_option maxRecDepth 16384

noncomputable section

namespace Cert.KernelIdeal.Gen

open Idealize.ShloMosaic Idealize.ShloMosaic.TcCoe Idealize.SL.Sem Idealize.ShloMosaic.WordCmp

theorem scale_val : (Named.named (F := Ideal) (φ := .f32) κ "sm_scale" 1033096506#32 : EReal) = (Alg.sg : EReal) :=
  IdealRules.named_const.ideal_named_scalar _ _ _ _ rfl
theorem zero_val : Ideal.ofBits FTy.f32 0#32 = (0 : EReal) := by
  simp [Ideal.ofBits, Ideal.ieee]
theorem one_val : Ideal.ofBits FTy.f32 1065353216#32 = (1 : EReal) := by
  simp [Ideal.ofBits, Ideal.ieee, -EReal.coe_mul]; norm_num

theorem t0w_eq (i : grid0.Coords) : Scalar.muli (BitVec.ofNat 32 (i 1).val) 64#32 = BitVec.ofNat 32 ((i 1).val * 64) := muli_ofNat _ _

theorem out6_at (i : grid0.Coords) (w : BitVec 32) (L : Vec Ideal S2048x128 .f32) (A : Vec Ideal S2048x512 .f32) (r : Fin 2048) (s : EReal)
    (hL : ∀ l, L (ix2 r l) = s) (c : Fin 512) :
    k0_pay103 (F := Ideal) w (Scalar.muli (BitVec.ofNat 32 (i 1).val) 64#32) (k0_pay102 L) A (ix3 0 r c)
      = if ((64 * (i 1).val + r.val / 32 : ℕ) : ℤ) < w.toInt then A (ix2 r c) * Ideal.div 1 s else 0 := by
  have h1 : (i 1).val < 26 := (i 1).isLt
  have hr : r.val / 32 < 64 := by have := r.isLt; omega
  pointwise [k0_pay103, k0_pay102]
  simp only [hL, dite_eq_ite, ite_self]
  rw [t0w_eq, addi_ofNat, cmpi_slt_eq, toInt_ofNat_of_lt (by omega), select_decide, mul_comm (i 1).val]

/-- A select on "the lane is `t`". -/
theorem sel_eq (l t : ℕ) (hl : l < 128) (ht : t < 128) (x y : EReal) :
    Scalar.select (IntOp.cmpi .eq (BitVec.ofNat 32 l) (BitVec.ofNat 32 t)) x y = if l = t then x else y := by
  rw [cmpi_eq_ofNat (by omega) (by omega), select_decide]

section Chain
variable (Z : FVec Ideal S2048x128 .f32) (y : FVec Ideal S32x128 .f32)

/-- The first `n` lanes of row `h` hold row `32 l + h` of `Z`. -/
def Lanes (n : ℕ) (Z : FVec Ideal S2048x128 .f32) (y : FVec Ideal S32x128 .f32) : Prop :=
  ∀ (h : Fin 32) (l : Fin 128) (hl : l.val < n) (h64 : l.val < 64), y (ix2 h l) = Z (ix2 ⟨32 * l.val + h.val, by omega⟩ l)

theorem lane_step (h : Fin 32) (l : Fin 128) (h64 : l.val < 64) (n : ℕ) (hn : n < 64) (x : EReal)
    (hx : l.val < n → x = Z (ix2 ⟨32 * l.val + h.val, by omega⟩ l)) :
    l.val < n + 1 → Scalar.select (IntOp.cmpi .eq (BitVec.ofNat 32 l.val) (BitVec.ofNat 32 n)) (Z (ix2 ⟨32 * n + h.val, by omega⟩ l)) x
      = Z (ix2 ⟨32 * l.val + h.val, by omega⟩ l) := by
  intro hl
  rw [sel_eq _ _ l.isLt (by omega)]
  split_ifs with e
  · subst e; rfl
  · exact hx (by omega)

theorem lanes106 (hy : Lanes 5 Z y) : Lanes 17 Z (k0_pay106 Z (iota .tc S32x128 32 [1] iota_S32x128_d1_w32) y) := by
  intro h l hl h64
  have hp := fun e => hy h l e h64
  revert hl
  pointwise [k0_pay106]
  repeat first | exact hp | refine lane_step Z h l h64 _ (by decide) _ ?_
theorem lanes107 (hy : Lanes 17 Z y) : Lanes 29 Z (k0_pay107 Z (iota .tc S32x128 32 [1] iota_S32x128_d1_w32) y) := by
  intro h l hl h64
  have hp := fun e => hy h l e h64
  revert hl
  pointwise [k0_pay107]
  repeat first | exact hp | refine lane_step Z h l h64 _ (by decide) _ ?_
theorem lanes108 (hy : Lanes 29 Z y) : Lanes 41 Z (k0_pay108 Z (iota .tc S32x128 32 [1] iota_S32x128_d1_w32) y) := by
  intro h l hl h64
  have hp := fun e => hy h l e h64
  revert hl
  pointwise [k0_pay108]
  repeat first | exact hp | refine lane_step Z h l h64 _ (by decide) _ ?_
theorem lanes109 (hy : Lanes 41 Z y) : Lanes 53 Z (k0_pay109 Z (iota .tc S32x128 32 [1] iota_S32x128_d1_w32) y) := by
  intro h l hl h64
  have hp := fun e => hy h l e h64
  revert hl
  pointwise [k0_pay109]
  repeat first | exact hp | refine lane_step Z h l h64 _ (by decide) _ ?_
theorem lanes110 (hy : Lanes 53 Z y) : Lanes 64 Z (k0_pay110 Z (iota .tc S32x128 32 [1] iota_S32x128_d1_w32) y) := by
  intro h l hl h64
  have hp := fun e => hy h l e h64
  revert hl
  pointwise [k0_pay110]
  repeat first | exact hp | refine lane_step Z h l h64 _ (by decide) _ ?_
theorem lanes105 (M L : Vec Ideal S2048x128 .f32) : Lanes 5 (k0_pay104 M L) (k0_pay105 M L) := by
  intro h l hl h64
  revert hl
  unfold k0_pay105
  dsimp only
  generalize k0_pay104 M L = Z
  have hp : l.val < 0 → Ideal.ofBits FTy.f32 0#32 = Z (ix2 ⟨32 * l.val + h.val, by omega⟩ l) := fun e => absurd e (by omega)
  have h0 := lane_step Z h l h64 0 (by decide) _ hp
  simp only [Nat.mul_zero, Nat.zero_add] at h0
  pointwise []
  iterate 4 refine lane_step Z h l h64 _ (by decide) _ ?_

  simpa [zero_val] using h0
end Chain

theorem pay104_at (M L : Vec Ideal S2048x128 .f32) (r : Fin 2048) (l : Fin 128) :
    k0_pay104 (F := Ideal) M L (ix2 r l) = M (ix2 r l) * (Alg.sg : EReal) + Ideal.log (L (ix2 r l)) := by
  pointwise [k0_pay104]
  rw [scale_val]

theorem out7_at (i : grid0.Coords) (w : BitVec 32) (M L : Vec Ideal S2048x128 .f32) (t : Fin 64) (h : Fin 32) :
    k0_pay3 (F := Ideal) (k0_pay110 (k0_pay104 M L) (iota .tc S32x128 32 [1] iota_S32x128_d1_w32)
        (k0_pay109 (k0_pay104 M L) (iota .tc S32x128 32 [1] iota_S32x128_d1_w32)
        (k0_pay108 (k0_pay104 M L) (iota .tc S32x128 32 [1] iota_S32x128_d1_w32)
        (k0_pay107 (k0_pay104 M L) (iota .tc S32x128 32 [1] iota_S32x128_d1_w32)
        (k0_pay106 (k0_pay104 M L) (iota .tc S32x128 32 [1] iota_S32x128_d1_w32) (k0_pay105 M L))))))
      (k0_pay111 (F := Ideal) w (Scalar.muli (BitVec.ofNat 32 (i 1).val) 64#32) (iota .tc S32x128 32 [1] iota_S32x128_d1_w32))
      (Scalar.ofBits .f32 0#32) (ix3 0 t h)
      = if ((64 * (i 1).val + t.val : ℕ) : ℤ) < w.toInt then
          M (ix2 ⟨32 * t.val + h.val, by omega⟩ ⟨t.val, by omega⟩) * (Alg.sg : EReal)
            + Ideal.log (L (ix2 ⟨32 * t.val + h.val, by omega⟩ ⟨t.val, by omega⟩)) else 0 := by
  have h1 : (i 1).val < 26 := (i 1).isLt
  have e := lanes110 _ _ (lanes109 _ _ (lanes108 _ _ (lanes107 _ _ (lanes106 _ _ (lanes105 M L))))) h ⟨t.val, by omega⟩ t.isLt t.isLt
  generalize k0_pay110 _ _ _ = y at e ⊢
  rw [pay104_at] at e
  rw [← e]
  pointwise [k0_pay3, k0_pay111]

  rw [t0w_eq, addi_ofNat, cmpi_slt_eq, toInt_ofNat_of_lt (by omega), select_decide, mul_comm (i 1).val, Nat.add_comm t.val]

end Cert.KernelIdeal.Gen

end
-- ==== Proof.KIBlock.lean ====
/- What a grid point of the computing case leaves in its two output blocks: the loop's running statistics put through the kernel's exit. -/
module

public import proofs.«01_k».proof.Proof.KIFrame
public import proofs.«01_k».proof.Proof.KILast
public import Idealize.ShloMosaic.Lib.LoopRemainder

@[expose] public section

set_option maxRecDepth 16384

noncomputable section

namespace Cert.KernelIdeal.Gen

open Idealize.ShloMosaic Idealize.ShloMosaic.TcCoe Idealize.SL.Sem Idealize.ShloMosaic.Tactic

variable {F : FTy → Type} [FloatOps F] [Named F]

/-- The query scales spread over the score tile's rows: row `32 t + h` holds token `t`'s scale of head `h` in every lane. -/
def spread (x1 : Vec F S1x64x32 .f32) (y : S2048x128.Idx) : F .f32 :=
  x1 (ix3 0 ⟨(y 0).val / 32, by have : (y 0).val < 2048 := (y 0).isLt; omega⟩ ⟨(y 0).val % 32, Nat.mod_lt _ (by decide)⟩)

theorem slices_t (t : ℕ) (ht : t < 64) : S32x64.Slices ![0, t] S32x1 :=
  ⟨rfl, fun a => by fin_cases a; · show 0 + 32 ≤ 32; omega
                    · show t + 1 ≤ 64; omega⟩

theorem inb_t (t o : ℕ) (ht : t < 64) (ho : o = 32 * t) (a : Fin S2048x128.rank) : (![o, 0] : Fin 2 → ℕ) a + S32x128.size a ≤ S2048x128.size a := by
  fin_cases a
  · show o + 32 ≤ 2048; omega
  · show 0 + 128 ≤ 128; omega

/-- One row piece of the spread query scales: rows `32 t … 32 t + 31` hold token `t`'s scales, one per head, in every lane. -/
theorem piece_at (x1 : Vec F S1x64x32 .f32) (t o : ℕ) (ht : t < 64) (ho : o = 32 * t) (w : Vec F S32x128 .f32)
    (hw : w = shapeCast S32x128 (broadcastTo S32x128 (shapeCast S32x1 (extractStridedSlice S32x1 ![0, t] (k0_pay16 (F := F) x1) (slices_t t ht))
      shapeCasts_S32x1_S32x1) broadcasts_S32x1_S32x128) shapeCasts_S32x128_S32x128) :
    ∀ x, w x = spread x1 ((Rect.unit (s := S2048x128) ![o, 0] S32x128.size (inb_t t o ht ho)).emb x) := by
  subst hw ho
  have inb := inb_t t (32 * t) ht rfl
  intro x
  obtain ⟨r, l, rfl⟩ : ∃ (r : Fin 32) (l : Fin 128), x = ix2 r l := ⟨x 0, x 1, by funext a; fin_cases a <;> rfl⟩
  unfold spread
  pointwise [k0_pay16]
  have e0 : ((Rect.unit (s := S2048x128) ![32 * t, 0] S32x128.size inb).emb (ix2 r l) 0).val = 32 * t + r.val :=
    Rect.idx_unit_val (s := S2048x128) _ _ inb (ix2 r l) 0
  have hr := r.isLt
  congr 2 <;> refine Fin.ext ?_
  · show t = ((Rect.unit (s := S2048x128) ![32 * t, 0] S32x128.size inb).emb (ix2 r l) 0).val / 32
    rw [e0]; omega
  · show r.val = ((Rect.unit (s := S2048x128) ![32 * t, 0] S32x128.size inb).emb (ix2 r l) 0).val % 32
    rw [e0]; omega

theorem block_B (P : ℕ → Vec F S2048x128 .f32 → Vec F S2048x128 .f32 → Vec F S2048x512 .f32 → Prop) (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec F S1x2048x512 .fp8e4m3) (x1 : Vec F S1x64x32 .f32) (x2 : Vec F S1x2048x64 .bf16) (x3 : Vec F S1x1792x512 .fp8e4m3) (x4 : Vec F S12x1792 .f32) (x5 : Vec F S1x1792x64 .bf16) (xt0 : TbBuf0 (F := F) c tbM0_0) (hc0 : ¬cond0_0 i (tbM0_0.view.readAt (Elt F) (Rect.unit (s := S12) (k0_off1 i) S1.size (k0_off1_inb i)).toLoadRect xt0 (Shape.Idx.first (numel1_S1.symm ▸ Nat.one_pos)))) (hc1 : cond0_1 i (tbM0_0.view.readAt (Elt F) (Rect.unit (s := S12) (k0_off1 i) S1.size (k0_off1_inb i)).toLoadRect xt0 (Shape.Idx.first (numel1_S1.symm ▸ Nat.one_pos))))
    (h0 : P 0 k0_pay87 k0_pay88 (k0_pay90 k0_pay89))
    (hs : ∀ X11 : Vec F S2048x128 .f32, (∀ (t : Fin 64) (h : Fin 32) (l : Fin 128), X11 (ix2 ⟨32 * t.val + h.val, by omega⟩ l) = x1 (ix3 0 t h)) →
      ∀ (k : Fin (k0_t1_loop i).trips) M L A, P k.val M L A → P (k.val + 1)
      (tM i (Scalar.muli (BitVec.ofNat 32 (i 1).val) 64#32) (iota .tc S2048x256 32 [1] iota_S2048x256_d1_w32) k x0 x2 x3 x4 x5 X11 M)
      (tL i (Scalar.muli (BitVec.ofNat 32 (i 1).val) 64#32) (iota .tc S2048x256 32 [1] iota_S2048x256_d1_w32) k x0 x2 x3 x4 x5 X11 M L)
      (tA i (Scalar.muli (BitVec.ofNat 32 (i 1).val) 64#32) (iota .tc S2048x256 32 [1] iota_S2048x256_d1_w32) k x0 x2 x3 x4 x5 X11 M A)) :
    ∃ M L A, P (k0_t1_loop i).trips M L A ∧
      out0_B_6 c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1
        = k0_pay103 (tbM0_0.view.readAt (Elt F) (Rect.unit (s := S12) (k0_off1 i) S1.size (k0_off1_inb i)).toLoadRect xt0 (Shape.Idx.first (numel1_S1.symm ▸ Nat.one_pos)))
            (Scalar.muli (BitVec.ofNat 32 (i 1).val) 64#32) (k0_pay102 L) A ∧
      out0_B_7 c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1
        = k0_pay3 (k0_pay110 (k0_pay104 M L) (iota .tc S32x128 32 [1] iota_S32x128_d1_w32)
        (k0_pay109 (k0_pay104 M L) (iota .tc S32x128 32 [1] iota_S32x128_d1_w32)
        (k0_pay108 (k0_pay104 M L) (iota .tc S32x128 32 [1] iota_S32x128_d1_w32)
        (k0_pay107 (k0_pay104 M L) (iota .tc S32x128 32 [1] iota_S32x128_d1_w32)
        (k0_pay106 (k0_pay104 M L) (iota .tc S32x128 32 [1] iota_S32x128_d1_w32) (k0_pay105 M L))))))
      (k0_pay111 (F := F) (tbM0_0.view.readAt (Elt F) (Rect.unit (s := S12) (k0_off1 i) S1.size (k0_off1_inb i)).toLoadRect xt0 (Shape.Idx.first (numel1_S1.symm ▸ Nat.one_pos)))
        (Scalar.muli (BitVec.ofNat 32 (i 1).val) 64#32) (iota .tc S32x128 32 [1] iota_S32x128_d1_w32))
      (Scalar.ofBits .f32 0#32) := by
  unfold out0_B_6 out0_B_7
  rw [View.read_writes_eq_canon _ _ _ (cover0_B_6 c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1), View.read_writes_eq_canon _ _ _ (cover0_B_7 c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1)]
  unfold kernelRun0_B
  dsimp only
  rw [View.canon_unit_zero hz3, View.canon_unit_zero hz3]
  sl_unfold_words
  generalize hX : arg11.view.writes (Elt F) _ _ = X11
  have hX' : ∀ (t : Fin 64) (h : Fin 32) (l : Fin 128), arg11.view.read (Elt F) X11 (ix2 ⟨32 * t.val + h.val, by omega⟩ l) = x1 (ix3 0 t h) := by
    intro t h l
    subst hX
    refine (View.read_writes_apply_of_pieces _ _ (spread x1) _ ?_ _ ?_).trans ?_
    · simp only [View.readAt_eq_ld, harg4.read_unread, View.ld_unit_zero (S := S1x64x32) hz3]
      refine List.forall_mem_cons.2 ⟨?_, ?_⟩
      · exact piece_at x1 _ _ (by decide) (by decide) _ rfl
      repeat
        refine List.forall_mem_cons.2 ⟨?_, ?_⟩
        · exact piece_at x1 _ _ (by decide) (by decide) _ rfl
      exact List.forall_mem_nil _
    · refine View.cover_of_tiledL (s := S2048x128) _ S32x128.size ?_ _
      sl_kernel_rfl
    · have hh := h.isLt
      have ht := t.isLt
      show x1 (ix3 0 ⟨(32 * t.val + h.val) / 32, _⟩ ⟨(32 * t.val + h.val) % 32, _⟩) = _
      congr 2 <;> refine Fin.ext ?_
      · show (32 * t.val + h.val) / 32 = t.val; omega
      · show (32 * t.val + h.val) % 32 = h.val; omega
  clear hX
  rw [show Scf.trips (k0_t2_loop i).lb (k0_t2_loop i).ub (k0_t2_loop i).st = 0 from Idealize.ShloMosaic.Scf.rem_trips _ _]
  simp only [st_k0_t2.eq_1, List.nil_append]
  unfold View.readCov
  simp only [View.readAt_eq_ld, View.ld_unit_zero (S := S2048x128) hz2, View.ld_unit_zero (S := S2048x512) hz2, View.writes_append]
  have h := st_ind Variants.none c none i tbM0_0 htbM0_0 arg3 harg3 arg4 harg4 arg5 harg5 arg6 harg6 arg7 harg7 arg8 harg8 arg9 harg9 arg10 harg10 arg11 harg11 arg12 harg12 arg13 harg13 arg14 harg14
    (BitVec.ofNat 32 (i 0).val) (Scalar.muli (BitVec.ofNat 32 (i 1).val) 64#32) k0_pay89 (iota .tc S2048x256 32 [1] iota_S2048x256_d1_w32)
    (harg3.unread x0) (harg5.unread x2) (harg6.unread x3) (harg7.unread x4) (harg8.unread x5) X11
    (arg12.view.writes (Elt F) arg12.view.junk [⟨Rect.unit ![0, 0] S2048x128.size inb_S2048x128_S2048x128_0_0, k0_pay87⟩])
    (arg13.view.writes (Elt F) arg13.view.junk [⟨Rect.unit ![0, 0] S2048x128.size inb_S2048x128_S2048x128_0_0, k0_pay88⟩])
    (arg14.view.writes (Elt F) arg14.view.junk [⟨Rect.unit ![0, 0] S2048x512.size inb_S2048x512_S2048x512_0_0, k0_pay90 k0_pay89⟩]) 0#32 P
    (by
      rw [View.read_writes_full, View.read_writes_full, View.read_writes_full]; exact h0)
    (by
      simp only [harg3.read_unread, harg5.read_unread, harg6.read_unread, harg7.read_unread, harg8.read_unread]
      exact hs _ hX') _ le_rfl
  refine ⟨_, _, _, h, ?_, ?_⟩
  · rfl
  · rfl

/-- The skipping case: both output blocks are zero. -/
theorem block_A (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec F S1x2048x512 .fp8e4m3) (x1 : Vec F S1x64x32 .f32) (x2 : Vec F S1x2048x64 .bf16) (x3 : Vec F S1x1792x512 .fp8e4m3) (x4 : Vec F S12x1792 .f32) (x5 : Vec F S1x1792x64 .bf16) (xt0 : TbBuf0 (F := F) c tbM0_0) (hc0 : cond0_0 i (tbM0_0.view.readAt (Elt F) (Rect.unit (s := S12) (k0_off1 i) S1.size (k0_off1_inb i)).toLoadRect xt0 (Shape.Idx.first (numel1_S1.symm ▸ Nat.one_pos)))) (hc1 : ¬cond0_1 i (tbM0_0.view.readAt (Elt F) (Rect.unit (s := S12) (k0_off1 i) S1.size (k0_off1_inb i)).toLoadRect xt0 (Shape.Idx.first (numel1_S1.symm ▸ Nat.one_pos)))) : out0_A_6 c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1 = k0_pay1 ∧ out0_A_7 c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1 = k0_pay2 := by
  unfold out0_A_6 out0_A_7
  rw [View.read_writes_eq_canon _ _ _ (cover0_A_6 c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1), View.read_writes_eq_canon _ _ _ (cover0_A_7 c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1)]
  unfold kernelRun0_A
  dsimp only
  rw [View.canon_unit_zero hz3, View.canon_unit_zero hz3]
  sl_unfold_words
  exact ⟨rfl, rfl⟩

theorem pay1_at (x) : k0_pay1 (F := Ideal) x = (0 : EReal) := by
  show Ideal.ofBits FTy.bf16 0#16 = 0
  simp [Ideal.ofBits, Ideal.ieee]
theorem pay2_at (x) : k0_pay2 (F := Ideal) x = (0 : EReal) := zero_val

/-- The starting value of the running maximum: a finite number. -/
theorem neg_val : ∃ b : ℝ, Ideal.ofBits FTy.f32 4048155338#32 = (b : EReal) := by
  refine ⟨-(13234890 * 2 ^ 76), ?_⟩
  simp [Ideal.ofBits, Ideal.ieee, -EReal.coe_mul]

/-- Row `r`'s query scale. -/
def qsv (x1 : Vec Ideal S1x64x32 .f32) (r : Fin 2048) : EReal := x1 (ix3 0 ⟨r.val / 32, by omega⟩ ⟨r.val % 32, Nat.mod_lt _ (by decide)⟩)

/-- The computing case at an index: the softmax-weighted sum of the codes, and the logarithm of the sum of exponentials, zero past the
    sequence's length. -/
theorem block_B_at (c : Dev nD) (i : grid0.Coords) (arg3 : Memref sig .tc .vmem S1x2048x512 .fp8e4m3) (harg3 : arg3.IsWhole) (arg4 : Memref sig .tc .vmem S1x64x32 .f32) (harg4 : arg4.IsWhole) (arg5 : Memref sig .tc .vmem S1x2048x64 .bf16) (harg5 : arg5.IsWhole) (arg6 : Memref sig .tc .vmem S1x1792x512 .fp8e4m3) (harg6 : arg6.IsWhole) (arg7 : Memref sig .tc .vmem S12x1792 .f32) (harg7 : arg7.IsWhole) (arg8 : Memref sig .tc .vmem S1x1792x64 .bf16) (harg8 : arg8.IsWhole) (arg9 : Memref sig .tc .vmem S1x2048x512 .bf16) (harg9 : arg9.IsWhole) (arg10 : Memref sig .tc .vmem S1x64x32 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x512 .f32) (harg14 : arg14.IsWhole)
    (x0 : Vec Ideal S1x2048x512 .fp8e4m3) (x1 : Vec Ideal S1x64x32 .f32) (x2 : Vec Ideal S1x2048x64 .bf16) (x3 : Vec Ideal S1x1792x512 .fp8e4m3) (x4 : Vec Ideal S12x1792 .f32) (x5 : Vec Ideal S1x1792x64 .bf16) (xt0 : TbBuf0 (F := Ideal) c tbM0_0) (hc0 : ¬cond0_0 i (tbM0_0.view.readAt (Elt Ideal) (Rect.unit (s := S12) (k0_off1 i) S1.size (k0_off1_inb i)).toLoadRect xt0 (Shape.Idx.first (numel1_S1.symm ▸ Nat.one_pos)))) (hc1 : cond0_1 i (tbM0_0.view.readAt (Elt Ideal) (Rect.unit (s := S12) (k0_off1 i) S1.size (k0_off1_inb i)).toLoadRect xt0 (Shape.Idx.first (numel1_S1.symm ▸ Nat.one_pos)))) (r : Fin 2048) :
    (∀ c', out0_B_6 c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1 (ix3 0 r c')
        = if ((64 * (i 1).val + r.val / 32 : ℕ) : ℤ) < (tbM0_0.view.readAt (Elt Ideal) (Rect.unit (s := S12) (k0_off1 i) S1.size (k0_off1_inb i)).toLoadRect xt0 (Shape.Idx.first (numel1_S1.symm ▸ Nat.one_pos)) : BitVec 32).toInt then
            ∑ k ∈ Finset.range (256 * (k0_t1_loop i).trips), Alg.re (kx (64 * (i 1).val) (i 0) x0 x2 x3 x4 x5 (qsv x1 r) r) (256 * (k0_t1_loop i).trips) k
              * Ideal.div 1 (Alg.rt (kx (64 * (i 1).val) (i 0) x0 x2 x3 x4 x5 (qsv x1 r) r) (256 * (k0_t1_loop i).trips)) * kcs (i 0) x4 k * kv x3 c' k
          else 0) ∧
    (∀ (t : Fin 64) (h : Fin 32), r.val = 32 * t.val + h.val → out0_B_7 c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1 (ix3 0 t h)
        = if ((64 * (i 1).val + t.val : ℕ) : ℤ) < (tbM0_0.view.readAt (Elt Ideal) (Rect.unit (s := S12) (k0_off1 i) S1.size (k0_off1_inb i)).toLoadRect xt0 (Shape.Idx.first (numel1_S1.symm ▸ Nat.one_pos)) : BitVec 32).toInt then
            Alg.rm (kx (64 * (i 1).val) (i 0) x0 x2 x3 x4 x5 (qsv x1 r) r) (256 * (k0_t1_loop i).trips)
              + Ideal.log (Alg.rt (kx (64 * (i 1).val) (i 0) x0 x2 x3 x4 x5 (qsv x1 r) r) (256 * (k0_t1_loop i).trips))
          else 0) := by
  obtain ⟨b, hb⟩ := neg_val
  obtain ⟨M, L, A, hP, h6, h7⟩ := block_B (Inv b (64 * (i 1).val) (i 0) x0 x2 x3 x4 x5 (qsv x1)) c i arg3 harg3 arg4 harg4 arg5 harg5 arg6 harg6 arg7 harg7 arg8 harg8 arg9 harg9 arg10 harg10 arg11 harg11 arg12 harg12 arg13 harg13 arg14 harg14 x0 x1 x2 x3 x4 x5 xt0 hc0 hc1
    (by
      intro r
      refine ⟨fun l => ?_, fun l => ?_, fun c => ?_⟩
      · pointwise [k0_pay87]
        exact hb.trans (Alg.mx_zero _ _).symm
      · pointwise [k0_pay88]
        exact (Alg.sm_zero _ _).symm
      · pointwise [k0_pay90, k0_pay89]
        exact (Alg.ac_zero _ _ _ _).symm)
    (fun X11 hX k M L A h => inv_step i _ (fun r l => by pointwise) x0 x2 x3 x4 x5 X11 (qsv x1) (fun r l => by
      have hr := r.isLt
      have e := hX ⟨r.val / 32, by omega⟩ ⟨r.val % 32, Nat.mod_lt _ (by decide)⟩ l
      rw [qsv, ← e]
      congr 2
      refine Fin.ext ?_
      show r.val = 32 * (r.val / 32) + r.val % 32
      omega) b k M L A h)
  obtain ⟨hM, hL, hA⟩ := hP r
  constructor
  · intro c'
    rw [h6, out6_at i _ L A r _ hL c', hA c', Alg.out_eq]
  · intro t h hr
    rw [h7, out7_at i _ M L t h]
    have e : (⟨32 * t.val + h.val, by omega⟩ : Fin 2048) = r := Fin.ext hr.symm
    rw [e, hM, hL, Alg.lse_eq]

end Cert.KernelIdeal.Gen

end
-- ==== Proof.KIRead.lean ====
/- What the kernel's windows hold: the arrays as the launch finds them, padded or reshaped on the host, and each window's
   block at an index. -/
module

public import proofs.«01_k».proof.Proof.KIFrame
public import proofs.«01_k».proof.Proof.KIOk
public import proofs.«01_k».proof.Proof.KIBlock
public import Idealize.ShloMosaic.Lib.KernelVsHost
public import Idealize.ShloMosaic.Lib.Pointwise
public import Idealize.ShloMosaic.Lib.Pipeline.Value

@[expose] public section

set_option maxRecDepth 16384

noncomputable section

namespace Cert.KernelIdeal.Gen

open Idealize.ShloMosaic Idealize.ShloMosaic.TcCoe Cert.KernelIdeal.Facts
open Idealize.SL Idealize.SL.Sem

variable (m : (ℓ : Loc nD τ sig) → Buf (Elt Ideal) ℓ)

/-! ## The arrays the launch finds -/

theorem V_v1 (c : Dev nD) (b : Fin 12) (k : Fin 1792) (hk : k.val < 1664) (d : Fin 512) :
    V m c main_v1 (ix3 b k d) = m ((c : Thread nD τ).loc main_arg3) (ix3 b ⟨k.val, hk⟩ d) := by
  have e : V m c main_v1 = (pad S12x1792x512 ![0, 0, 0] ![0, 128, 0] ![0, 0, 0] (m ((c : Thread nD τ).loc main_arg3)) (bitcastToFloat (F := Ideal) .fp8e4m3 (constantI S_ 8 0#8)) pads_S12x1664x512_S12x1792x512_000_01280_000 h_S_ : Vec Ideal S12x1792x512 .fp8e4m3) := by
    unfold_abbrev_sides
    simp only [List.flatten_cons, List.flatten_nil, List.append_nil, List.cons_append, List.nil_append]
    after_results
  rw [e]
  refine pad_apply_of_inside _ _ _ _ _ _ _ _ (ix3 b ⟨k.val, hk⟩ d) fun a => ?_
  match a with
  | ⟨0, _⟩ => show b.val = 0 + b.val * (0 + 1); omega
  | ⟨1, _⟩ => show k.val = 0 + k.val * (0 + 1); omega
  | ⟨2, _⟩ => show d.val = 0 + d.val * (0 + 1); omega

theorem V_v2 (c : Dev nD) (b : Fin 12) (k : Fin 1792) (hk : k.val < 1664) (d : Fin 64) :
    V m c main_v2 (ix3 b k d) = m ((c : Thread nD τ).loc main_arg5) (ix3 b ⟨k.val, hk⟩ d) := by
  have e : V m c main_v2 = (pad S12x1792x64 ![0, 0, 0] ![0, 128, 0] ![0, 0, 0] (m ((c : Thread nD τ).loc main_arg5)) (sitofp (F := Ideal) .bf16 (constantI S_ 32 0#32)) pads_S12x1664x64_S12x1792x64_000_01280_000 h_S_ : Vec Ideal S12x1792x64 .bf16) := by
    unfold_abbrev_sides
    simp only [List.flatten_cons, List.flatten_nil, List.append_nil, List.cons_append, List.nil_append]
    after_results
    rfl
  rw [e]
  refine pad_apply_of_inside _ _ _ _ _ _ _ _ (ix3 b ⟨k.val, hk⟩ d) fun a => ?_
  match a with
  | ⟨0, _⟩ => show b.val = 0 + b.val * (0 + 1); omega
  | ⟨1, _⟩ => show k.val = 0 + k.val * (0 + 1); omega
  | ⟨2, _⟩ => show d.val = 0 + d.val * (0 + 1); omega

theorem V_v3 (c : Dev nD) (b : Fin 12) (k : Fin 1792) (hk : k.val < 1664) :
    V m c main_v3 (ix2 b k) = m ((c : Thread nD τ).loc main_arg4) (ix2 b ⟨k.val, hk⟩) := by
  have e : V m c main_v3 = (pad S12x1792 ![0, 0] ![0, 128] ![0, 0] (m ((c : Thread nD τ).loc main_arg4)) (sitofp (F := Ideal) .f32 (constantI S_ 32 0#32)) pads_S12x1664_S12x1792_000_01280 h_S_ : Vec Ideal S12x1792 .f32) := by
    unfold_abbrev_sides
    simp only [List.flatten_cons, List.flatten_nil, List.append_nil, List.cons_append, List.nil_append]
    after_results
    rfl
  rw [e]
  refine pad_apply_of_inside _ _ _ _ _ _ _ _ (ix2 b ⟨k.val, hk⟩) fun a => ?_
  match a with
  | ⟨0, _⟩ => show b.val = 0 + b.val * (0 + 1); omega
  | ⟨1, _⟩ => show k.val = 0 + k.val * (0 + 1); omega

theorem V_v4 (c : Dev nD) (b : Fin 12) (t : Fin 1664) (h : Fin 32) (d : Fin 512) (j : Fin 53248) (hj : j.val = 32 * t.val + h.val) :
    V m c main_v4 (ix3 b j d) = m ((c : Thread nD τ).loc main_arg0) (ix4 b t h d) := by
  have e : V m c main_v4 = (shapeCast S12x53248x512 (m ((c : Thread nD τ).loc main_arg0) : Vec Ideal S12x1664x32x512 .fp8e4m3) shapeCasts_S12x1664x32x512_S12x53248x512 : Vec Ideal S12x53248x512 .fp8e4m3) := by
    unfold_abbrev_sides
    simp only [List.flatten_cons, List.flatten_nil, List.append_nil, List.cons_append, List.nil_append]
    after_results
    rfl
  rw [e]
  refine shapeCast_apply _ _ _ (ix4 b t h d) ?_
  rw [Shape.rowMajor_val_four, Shape.rowMajor_val_three]
  show ((b.val * 1664 + t.val) * 32 + h.val) * 512 + d.val = (b.val * 53248 + j.val) * 512 + d.val
  omega

theorem V_v5 (c : Dev nD) (b : Fin 12) (t : Fin 1664) (h : Fin 32) (d : Fin 64) (j : Fin 53248) (hj : j.val = 32 * t.val + h.val) :
    V m c main_v5 (ix3 b j d) = m ((c : Thread nD τ).loc main_arg2) (ix4 b t h d) := by
  have e : V m c main_v5 = (shapeCast S12x53248x64 (m ((c : Thread nD τ).loc main_arg2) : Vec Ideal S12x1664x32x64 .bf16) shapeCasts_S12x1664x32x64_S12x53248x64 : Vec Ideal S12x53248x64 .bf16) := by
    unfold_abbrev_sides
    simp only [List.flatten_cons, List.flatten_nil, List.append_nil, List.cons_append, List.nil_append]
    after_results
    rfl
  rw [e]
  refine shapeCast_apply _ _ _ (ix4 b t h d) ?_
  rw [Shape.rowMajor_val_four, Shape.rowMajor_val_three]
  show ((b.val * 1664 + t.val) * 32 + h.val) * 64 + d.val = (b.val * 53248 + j.val) * 64 + d.val
  omega

/-! ## The lengths -/

/-- The length of a sequence. -/
def len (c : Dev nD) (b : Fin 12) : BitVec 32 := m ((c : Thread nD τ).loc main_arg6) (ix1 b)

theorem tbl_at (b : Fin 12) (c : Dev nD) (j : S12.Idx) (hj : (j 0).val = b.val) : (tbl m 0 : IVec S12 32) j = len m c b := by
  obtain rfl : c = 0 := Subsingleton.elim _ _
  have e : (tbl m 0 : IVec S12 32) = m (((0 : Dev nD) : Thread nD τ).loc main_arg6) := V_main_arg6 m 0
  rw [e]
  refine congrArg _ (funext fun a => Fin.ext ?_)
  match a with
  | ⟨0, _⟩ => exact hj

theorem len_off (i : grid0.Coords) : (Scalar.indexCast (BitVec.ofNat 32 (i 0).val)).toNat = (i 0).val := by
  show (BitVec.ofNat 32 (i 0).val).toNat = _
  exact WordCmp.toNat_ofNat_of_lt (lt_trans (i 0).isLt (by decide))

theorem word_eq (c : Dev nD) (i : grid0.Coords) :
    (tbM0_0.view.readAt (Elt Ideal) (Rect.unit (s := S12) (k0_off1 i) S1.size (k0_off1_inb i)).toLoadRect (tbl m 0) (Shape.Idx.first (numel1_S1.symm ▸ Nat.one_pos)) : BitVec 32) = len m c (i 0) :=
  tbl_at m (i 0) c _ (by
    show (Scalar.indexCast (BitVec.ofNat 32 (i 0).val)).toNat + 1 * 0 = (i 0).val
    rw [len_off, Nat.mul_zero, Nat.add_zero])

theorem lenW_eq (c : Dev nD) (i : grid0.Coords) : lenW (F := Ideal) (tbl m) i = len m c (i 0) :=
  tbl_at m (i 0) c _ (by
    show (Scalar.indexCast (BitVec.ofNat 32 (i 0).val)).toNat + 1 * 0 = (i 0).val
    rw [len_off, Nat.mul_zero, Nat.add_zero])

/-! ## The windows' blocks -/

section Blocks
variable (hO : Ok m) (c : Dev nD) (t : Fin (cfgM m hO).N)

theorem iblk3_at (k : Fin 1792) (d : Fin 512) :
    (iblk m hO c 3 t : Vec Ideal S1x1792x512 .fp8e4m3) (ix3 0 k d) = V m c main_v1 (ix3 (grid0.coords t 0) k d) := by
  unfold iblk
  refine (View.read_apply _ _).trans ?_
  show V m c main_v1 _ = V m c main_v1 _
  refine congrArg _ (funext fun a => Fin.ext ?_)
  match a with
  | ⟨0, _⟩ => show (BitVec.ofNat 32 (grid0.coords t 0).val).toNat * 1 + 1 * 0 = (grid0.coords t 0).val
              rw [WordCmp.toNat_ofNat_of_lt (lt_trans (grid0.coords t 0).isLt (by decide))]; omega
  | ⟨1, _⟩ => show 0 * 1792 + 1 * k.val = k.val; omega
  | ⟨2, _⟩ => show 0 * 512 + 1 * d.val = d.val; omega

theorem iblk5_at (k : Fin 1792) (d : Fin 64) :
    (iblk m hO c 5 t : Vec Ideal S1x1792x64 .bf16) (ix3 0 k d) = V m c main_v2 (ix3 (grid0.coords t 0) k d) := by
  unfold iblk
  refine (View.read_apply _ _).trans ?_
  show V m c main_v2 _ = V m c main_v2 _
  refine congrArg _ (funext fun a => Fin.ext ?_)
  match a with
  | ⟨0, _⟩ => show (BitVec.ofNat 32 (grid0.coords t 0).val).toNat * 1 + 1 * 0 = (grid0.coords t 0).val
              rw [WordCmp.toNat_ofNat_of_lt (lt_trans (grid0.coords t 0).isLt (by decide))]; omega
  | ⟨1, _⟩ => show 0 * 1792 + 1 * k.val = k.val; omega
  | ⟨2, _⟩ => show 0 * 64 + 1 * d.val = d.val; omega

theorem iblk4_at (b : Fin 12) (k : Fin 1792) :
    (iblk m hO c 4 t : Vec Ideal S12x1792 .f32) (ix2 b k) = V m c main_v3 (ix2 b k) := by
  unfold iblk
  refine (View.read_apply _ _).trans ?_
  show V m c main_v3 _ = V m c main_v3 _
  refine congrArg _ (funext fun a => Fin.ext ?_)
  match a with
  | ⟨0, _⟩ => show 0 * 12 + 1 * b.val = b.val; omega
  | ⟨1, _⟩ => show 0 * 1792 + 1 * k.val = k.val; omega

/-- The query block is the grid point's own. -/
def Own : Prop := (Words.qw (lenW (F := Ideal) (tbl m) (grid0.coords t)) (BitVec.ofNat 32 (grid0.coords t 1).val)).toNat = (grid0.coords t 1).val

theorem iblk0_at (hw : Own m hO t) (r : Fin 2048) (d : Fin 512) (j : Fin 53248) (hj : j.val = 2048 * (grid0.coords t 1).val + r.val) :
    (iblk m hO c 0 t : Vec Ideal S1x2048x512 .fp8e4m3) (ix3 0 r d) = V m c main_v4 (ix3 (grid0.coords t 0) j d) := by
  unfold iblk
  refine (View.read_apply _ _).trans ?_
  show V m c main_v4 _ = V m c main_v4 _
  refine congrArg _ (funext fun a => Fin.ext ?_)
  have e := map_q (F := Ideal) (tbl m) (grid0.coords t)
  match a with
  | ⟨0, _⟩ => show cc0_transform_0 k0_off1_inb numel1_S1 (tbl m) (grid0.coords t) 0 * 1 + 1 * 0 = (grid0.coords t 0).val
              rw [e]; show (grid0.coords t 0).val * 1 + 1 * 0 = _; omega
  | ⟨1, _⟩ => show cc0_transform_0 k0_off1_inb numel1_S1 (tbl m) (grid0.coords t) 1 * 2048 + 1 * r.val = j.val
              rw [e]; show (Words.qw _ _).toNat * 2048 + 1 * r.val = _; unfold Own at hw; rw [hw]; omega
  | ⟨2, _⟩ => show cc0_transform_0 k0_off1_inb numel1_S1 (tbl m) (grid0.coords t) 2 * 512 + 1 * d.val = d.val
              rw [e]; show 0 * 512 + 1 * d.val = _; omega

theorem iblk2_at (hw : Own m hO t) (r : Fin 2048) (d : Fin 64) (j : Fin 53248) (hj : j.val = 2048 * (grid0.coords t 1).val + r.val) :
    (iblk m hO c 2 t : Vec Ideal S1x2048x64 .bf16) (ix3 0 r d) = V m c main_v5 (ix3 (grid0.coords t 0) j d) := by
  unfold iblk
  refine (View.read_apply _ _).trans ?_
  show V m c main_v5 _ = V m c main_v5 _
  refine congrArg _ (funext fun a => Fin.ext ?_)
  have e := map_q (F := Ideal) (tbl m) (grid0.coords t)
  match a with
  | ⟨0, _⟩ => show cc0_transform_0 k0_off1_inb numel1_S1 (tbl m) (grid0.coords t) 0 * 1 + 1 * 0 = (grid0.coords t 0).val
              rw [e]; show (grid0.coords t 0).val * 1 + 1 * 0 = _; omega
  | ⟨1, _⟩ => show cc0_transform_0 k0_off1_inb numel1_S1 (tbl m) (grid0.coords t) 1 * 2048 + 1 * r.val = j.val
              rw [e]; show (Words.qw _ _).toNat * 2048 + 1 * r.val = _; unfold Own at hw; rw [hw]; omega
  | ⟨2, _⟩ => show cc0_transform_0 k0_off1_inb numel1_S1 (tbl m) (grid0.coords t) 2 * 64 + 1 * d.val = d.val
              rw [e]; show 0 * 64 + 1 * d.val = _; omega

theorem iblk1_at (hw : Own m hO t) (r : Fin 64) (d : Fin 32) (j : Fin 1664) (hj : j.val = 64 * (grid0.coords t 1).val + r.val) :
    (iblk m hO c 1 t : Vec Ideal S1x64x32 .f32) (ix3 0 r d) = m ((c : Thread nD τ).loc main_arg1) (ix3 (grid0.coords t 0) j d) := by
  rw [← V_main_arg1 m c]
  unfold iblk
  refine (View.read_apply _ _).trans ?_
  show V m c main_arg1 _ = V m c main_arg1 _
  refine congrArg _ (funext fun a => Fin.ext ?_)
  have e := map_q (F := Ideal) (tbl m) (grid0.coords t)
  match a with
  | ⟨0, _⟩ => show cc0_transform_0 k0_off1_inb numel1_S1 (tbl m) (grid0.coords t) 0 * 1 + 1 * 0 = (grid0.coords t 0).val
              rw [e]; show (grid0.coords t 0).val * 1 + 1 * 0 = _; omega
  | ⟨1, _⟩ => show cc0_transform_0 k0_off1_inb numel1_S1 (tbl m) (grid0.coords t) 1 * 64 + 1 * r.val = j.val
              rw [e]; show (Words.qw _ _).toNat * 64 + 1 * r.val = _; unfold Own at hw; rw [hw]; omega
  | ⟨2, _⟩ => show cc0_transform_0 k0_off1_inb numel1_S1 (tbl m) (grid0.coords t) 2 * 32 + 1 * d.val = d.val
              rw [e]; show 0 * 32 + 1 * d.val = _; omega

end Blocks

end Cert.KernelIdeal.Gen

end
-- ==== Proof.RefElt.lean ====
/- The reference's stages over the extended reals, element by element: a row's scores, its softmax and its two results. -/
module

public import proofs.«01_k».proof.Proof.Gen.ReferenceIdeal.Read
public import proofs.«01_k».proof.Proof.Alg
public import Idealize.ShloMosaic.Lib.Pointwise
public import Idealize.ShloMosaic.Lib.WordCmp
public import Idealize.ShloMosaic.PureOps.Ideal.Laws

@[expose] public section

set_option maxRecDepth 16384

noncomputable section

namespace Cert.ReferenceIdeal.Read

open Idealize.ShloMosaic Idealize.ShloMosaic.TcCoe Idealize.SL.Sem Idealize.ShloMosaic.WordCmp

theorem ninf_val : Ideal.ofBits FTy.f32 4286578688#32 = (⊥ : EReal) := by
  simp [Ideal.ofBits, Ideal.ieee]
theorem one_val : Ideal.ofBits FTy.f32 1065353216#32 = (1 : EReal) := by
  simp [Ideal.ofBits, Ideal.ieee, -EReal.coe_mul]; norm_num
theorem zero_val : Ideal.ofBits FTy.f32 0#32 = (0 : EReal) := by
  simp [Ideal.ofBits, Ideal.ieee]
theorem n192_val : Ideal.ofBits FTy.f32 1128267776#32 = ((192 : ℝ) : EReal) := by
  simp [Ideal.ofBits, Ideal.ieee, -EReal.coe_mul]; norm_num

section Row
variable (x1 : FVec Ideal S12x1664x32 .f32) (x2 : FVec Ideal S12x1664x32x64 .bf16) (x4 : FVec Ideal S12x1664 .f32)
  (x5 : FVec Ideal S12x1664x64 .bf16) (x6 : IVec S12 32) (r0 : FVec Ideal S12x1664x32x512 .f32) (r1 : FVec Ideal S12x1664x512 .f32)
  (b : Fin 12) (t : Fin 1664) (h : Fin 32)

/-- The unscaled score of a token's head against key `k`: minus infinity at keys past the token. -/
def rx (k : ℕ) : EReal :=
  if hk : k < 1664 ∧ k ≤ t.val then
    ((∑ d : Fin 512, r0 (ix4 b t h d) * r1 (ix3 b ⟨k, hk.1⟩ d)) * x1 (ix3 b t h)) * x4 (ix2 b ⟨k, hk.1⟩)
      + ∑ e : Fin 64, x2 (ix4 b t h e) * x5 (ix3 b ⟨k, hk.1⟩ e)
  else ⊥

theorem s_at (k : Fin 1664) :
    val_main_v20 (F := Ideal) x1 x2 x4 x5 r0 r1 (ix4 b t h k) = rx x1 x2 x4 x5 r0 r1 b t h k.val * (Alg.sg : EReal) := by
  pointwise [val_main_v20, val_main_call0_v0, val_main_call0_v1, val_main_call0_v2, val_main_cst_0, val_main_v19, val_main_v18, val_main_v17,
    val_main_v16, val_main_v15, val_main_v14, val_main_v13, val_main_v12, val_main_v11, val_main_v10, val_main_cst, val_main_v9, val_main_v8,
    val_main_v7, val_main_v6, val_main_v5, val_main_v4, val_main_v3, val_main_v2, val_main_v1]
  rw [cmpi_sle_ofNat (by have := k.isLt; omega) (by have := t.isLt; omega), select_decide, n192_val]
  have hq : Ideal.sqrt ((192 : ℝ) : EReal) = ((Real.sqrt 192 : ℝ) : EReal) :=
    (Ideal.sqrt_coe _).trans (if_neg (by norm_num))
  rw [hq, Ideal.div_coe (Real.sqrt_pos.2 (by norm_num : (0 : ℝ) < 192)).ne', one_div]
  have e : (id (constant (F := Ideal) S_ FTy.f32 4286578688#32) ix0 : EReal) = ⊥ := ninf_val
  rw [e]
  unfold rx
  by_cases hk : k.val ≤ t.val
  · rw [if_pos hk, dif_pos ⟨k.isLt, hk⟩]; rfl
  · rw [if_neg hk, dif_neg (fun hh => hk hh.2), EReal.bot_mul_coe_of_pos Alg.sg_pos]

theorem sup_fold (f : ℕ → EReal) (T : ℕ) :
    (Finset.univ : Finset (Fin T)).fold max ⊥ (fun x => f x.val) = (Finset.range T).sup f := by
  show (Finset.univ : Finset (Fin T)).sup (fun x => f x.val) = _
  refine le_antisymm (Finset.sup_le fun x _ => Finset.le_sup (f := f) (Finset.mem_range.2 x.isLt))
    (Finset.sup_le fun x hx => ?_)
  exact Finset.le_sup (f := fun x : Fin T => f x.val) (Finset.mem_univ ⟨x, Finset.mem_range.1 hx⟩)

theorem m_at : val_main_v21 (F := Ideal) x1 x2 x4 x5 r0 r1 (ix3 b t h) = Alg.rm (rx x1 x2 x4 x5 r0 r1 b t h) 1664 := by
  have hs := s_at x1 x2 x4 x5 r0 r1 b t h
  unfold val_main_v21
  revert hs
  generalize val_main_v20 (F := Ideal) x1 x2 x4 x5 r0 r1 = y
  intro hs
  pointwise [val_main_cst_1]
  rw [ninf_val]
  simp only [hs]
  exact sup_fold (fun k => rx x1 x2 x4 x5 r0 r1 b t h k * (Alg.sg : EReal)) 1664

theorem e_at (k : Fin 1664) :
    val_main_v25 (F := Ideal) x1 x2 x4 x5 r0 r1 (ix4 b t h k) = Alg.re (rx x1 x2 x4 x5 r0 r1 b t h) 1664 k.val := by
  have hs := s_at x1 x2 x4 x5 r0 r1 b t h
  have hm := m_at x1 x2 x4 x5 r0 r1 b t h
  unfold val_main_v25 val_main_v24 val_main_v23 val_main_v22
  revert hs hm
  generalize val_main_v20 (F := Ideal) x1 x2 x4 x5 r0 r1 = y
  generalize val_main_v21 (F := Ideal) x1 x2 x4 x5 r0 r1 = z
  intro hs hm
  pointwise
  rw [hs, hm]
  rfl

theorem l_at : val_main_v27 (F := Ideal) x1 x2 x4 x5 r0 r1 (ix4 b t h 0) = Alg.rt (rx x1 x2 x4 x5 r0 r1 b t h) 1664 := by
  have he := e_at x1 x2 x4 x5 r0 r1 b t h
  unfold val_main_v27 val_main_v26
  revert he
  generalize val_main_v25 (F := Ideal) x1 x2 x4 x5 r0 r1 = y
  intro he
  pointwise [val_main_cst_2]
  simp only [he]
  rw [Alg.rt, Finset.sum_range]

/-- The key scales and codes, over all natural numbers. -/
def rcs (k : ℕ) : EReal := if hk : k < 1664 then x4 (ix2 b ⟨k, hk⟩) else 0
def rv (c : Fin 512) (k : ℕ) : EReal := if hk : k < 1664 then r1 (ix3 b ⟨k, hk⟩ c) else 0

theorem o_at (c : Fin 512) : val_main_v39 (F := Ideal) x1 x2 x4 x5 r0 r1 (ix4 b t h c)
    = ∑ k ∈ Finset.range 1664, Alg.re (rx x1 x2 x4 x5 r0 r1 b t h) 1664 k
        * Ideal.div 1 (Alg.rt (rx x1 x2 x4 x5 r0 r1 b t h) 1664) * rcs x4 b k * rv r1 b c k := by
  have he := e_at x1 x2 x4 x5 r0 r1 b t h
  have hl := l_at x1 x2 x4 x5 r0 r1 b t h
  unfold val_main_v39 val_main_v37 val_main_v36 val_main_v33 val_main_v32 val_main_v31
  revert he hl
  generalize val_main_v25 (F := Ideal) x1 x2 x4 x5 r0 r1 = y
  generalize val_main_v27 (F := Ideal) x1 x2 x4 x5 r0 r1 = z
  intro he hl
  pointwise [val_main_v30, val_main_cst_3, val_main_v35, val_main_v34, val_main_v38]
  rw [Finset.sum_range]
  refine Finset.sum_congr rfl fun k _ => ?_
  have e1 : rcs x4 b k.val = x4 (ix2 b k) := dif_pos k.isLt
  have e2 : rv r1 b c k.val = r1 (ix3 b k c) := dif_pos k.isLt
  rw [he, hl, e1, e2]

/-- The first result at a token's head: the weighted sum of the codes, zero past the sequence's length. -/
theorem v51_at (c : Fin 512) (j : Fin 53248) (hj : j.val = 32 * t.val + h.val) :
    val_main_v51 (F := Ideal) x1 x2 x4 x5 x6 r0 r1 (ix3 b j c)
      = if (t.val : ℤ) < (x6 (ix1 b)).toInt then
          ∑ k ∈ Finset.range 1664, Alg.re (rx x1 x2 x4 x5 r0 r1 b t h) 1664 k
            * Ideal.div 1 (Alg.rt (rx x1 x2 x4 x5 r0 r1 b t h) 1664) * rcs x4 b k * rv r1 b c k
        else 0 := by
  have ho := o_at x1 x2 x4 x5 r0 r1 b t h c
  unfold val_main_v51 val_main_v47 val_main_v46
  revert ho
  generalize val_main_v39 (F := Ideal) x1 x2 x4 x5 r0 r1 = y
  intro ho
  rw [← ho]
  have hh := h.isLt
  have ht : t = ⟨j.val / 32, by omega⟩ := Fin.ext (by show t.val = j.val / 32; omega)
  have hh' : h = ⟨j.val % 32, by omega⟩ := Fin.ext (by show h.val = j.val % 32; omega)
  pointwise [val_main_call1_v0, val_main_call1_v1, val_main_call1_v2, val_main_cst_4, val_main_v45, val_main_v44, val_main_v43, val_main_v42,
    val_main_v41, val_main_v40, val_main_v13]
  have e : (id (constant (F := Ideal) S_ FTy.f32 0#32) ix0 : EReal) = 0 := zero_val
  rw [e, cmpi_slt_eq, select_decide, toInt_ofNat_of_lt (by have := t.isLt; omega), ← ht, ← hh']
  have e2 : ((j.val / 32 : ℕ) : ℤ) = (t.val : ℤ) := by rw [hj]; omega
  rw [e2]

theorem lse_at : val_main_v29 (F := Ideal) x1 x2 x4 x5 r0 r1 (ix4 b t h 0)
    = Alg.rm (rx x1 x2 x4 x5 r0 r1 b t h) 1664 + Ideal.log (Alg.rt (rx x1 x2 x4 x5 r0 r1 b t h) 1664) := by
  have e : val_main_v22 (F := Ideal) x1 x2 x4 x5 r0 r1 (ix4 b t h 0) = val_main_v21 (F := Ideal) x1 x2 x4 x5 r0 r1 (ix3 b t h) := by
    rw [val_main_v22_apply]
    generalize val_main_v21 (F := Ideal) x1 x2 x4 x5 r0 r1 = y
    exact congrArg y (funext fun a => match a with
      | ⟨0, _⟩ => rfl
      | ⟨1, _⟩ => rfl
      | ⟨2, _⟩ => rfl)
  have hm := m_at x1 x2 x4 x5 r0 r1 b t h
  have hl := l_at x1 x2 x4 x5 r0 r1 b t h
  rw [val_main_v29_apply, e, val_main_v28_apply, hm, hl]
  generalize Alg.rm (rx x1 x2 x4 x5 r0 r1 b t h) 1664 = M
  generalize Alg.rt (rx x1 x2 x4 x5 r0 r1 b t h) 1664 = L
  rfl

theorem lse_at' : val_main_v49 (F := Ideal) x1 x2 x4 x5 r0 r1 (ix3 b t h)
    = val_main_v29 (F := Ideal) x1 x2 x4 x5 r0 r1 (ix4 b t h 0) := by
  rw [val_main_v49_apply]
  generalize val_main_v29 (F := Ideal) x1 x2 x4 x5 r0 r1 = y
  refine congrArg y (funext fun a => Fin.ext ?_)
  have h0 : b.val < 12 := b.isLt
  have h1 : t.val < 1664 := t.isLt
  have h2 : h.val < 32 := h.isLt
  match a with
  | ⟨0, _⟩ => show ((b.val * 1664 + t.val) * 32 + h.val) / 53248 = b.val; omega
  | ⟨1, _⟩ => show ((b.val * 1664 + t.val) * 32 + h.val) / 32 % 1664 = t.val; omega
  | ⟨2, _⟩ => show ((b.val * 1664 + t.val) * 32 + h.val) / 1 % 32 = h.val; omega
  | ⟨3, _⟩ => rfl

theorem valid_at : val_main_call2_v1 (F := Ideal) x6 (ix3 b t h) = BitVec.ofBool (decide ((t.val : ℤ) < (x6 (ix1 b)).toInt)) := by
  pointwise [val_main_call2_v1, val_main_v48, val_main_v44, val_main_v43, val_main_v42, val_main_v41, val_main_v40, val_main_v13]
  rw [cmpi_slt_eq, toInt_ofNat_of_lt (by have := t.isLt; omega)]

/-- The second result at a token's head: the logarithm of the sum of exponentials, zero past the sequence's length. -/
theorem v50_at :
    val_main_v50 (F := Ideal) x1 x2 x4 x5 x6 r0 r1 (ix3 b t h)
      = if (t.val : ℤ) < (x6 (ix1 b)).toInt then
          Alg.rm (rx x1 x2 x4 x5 r0 r1 b t h) 1664 + Ideal.log (Alg.rt (rx x1 x2 x4 x5 r0 r1 b t h) 1664)
        else 0 := by
  have e : val_main_call2_v2 (F := Ideal) (ix3 b t h) = (0 : EReal) := zero_val
  rw [val_main_v50_apply, valid_at, select_decide, lse_at', lse_at, e]

end Row

end Cert.ReferenceIdeal.Read

end
-- ==== Proof.KIResult.lean ====
/- The kernel's two result arrays: every entry is the reference's formula over the arguments. -/
module

public import proofs.«01_k».proof.Proof.KIFrame
public import proofs.«01_k».proof.Proof.KIOk
public import proofs.«01_k».proof.Proof.KIBlock
public import proofs.«01_k».proof.Proof.KIRead
public import proofs.«01_k».proof.Proof.RefElt
public import Idealize.ShloMosaic.Lib.KernelVsHost
public import Idealize.ShloMosaic.Lib.Pointwise
public import Idealize.ShloMosaic.Lib.Pipeline.Value

@[expose] public section

set_option maxRecDepth 16384

noncomputable section

namespace Cert.KernelIdeal.Gen

open Idealize.ShloMosaic Idealize.ShloMosaic.TcCoe Cert.KernelIdeal.Facts
open Idealize.SL Idealize.SL.Sem

variable (m : (ℓ : Loc nD τ sig) → Buf (Elt Ideal) ℓ)

open Cert.ReferenceIdeal.Read (rx rcs rv)

/-- The first token of a grid point's block, as a number. -/
theorem t0w_toInt (i : grid0.Coords) : (t0w i).toInt = 64 * ((i 1).val : ℤ) := by
  have h : (i 1).val < 26 := (i 1).isLt
  show (Scalar.muli (BitVec.ofNat 32 (i 1).val) 64#32).toInt = _
  rw [t0w_eq, WordCmp.toInt_ofNat_of_lt (by omega)]
  push_cast
  omega

section Pos
variable {t0 : ℕ} {b : Fin 12} {y3 : Vec Ideal S1x2048x512 .fp8e4m3} {y5 : Vec Ideal S1x2048x64 .bf16} {y6 : Vec Ideal S1x1792x512 .fp8e4m3}
  {y7 : Vec Ideal S12x1792 .f32} {y8 : Vec Ideal S1x1792x64 .bf16} {qs : EReal} {r : Fin 2048} {k : ℕ}

/-- The score, the scale and the code of a key up to the token, on the two sides: equal when what they read is. -/
theorem kx_eq_rx {x1 x2 x4 x5 r0 r1} {q : Fin 1664} {h : Fin 32} (hk : k < 1664) (hk' : k ≤ q.val) (hq : q.val = t0 + r.val / 32)
    (e1 : qs = x1 (ix3 b q h)) (e4 : y7 (ix2 b ⟨k, by omega⟩) = x4 (ix2 b ⟨k, hk⟩))
    (e0 : ∀ d, y3 (ix3 0 r d) = r0 (ix4 b q h d)) (e3 : ∀ d, y6 (ix3 0 ⟨k, by omega⟩ d) = r1 (ix3 b ⟨k, hk⟩ d))
    (e2 : ∀ d, y5 (ix3 0 r d) = x2 (ix4 b q h d)) (e5 : ∀ d, y8 (ix3 0 ⟨k, by omega⟩ d) = x5 (ix3 b ⟨k, hk⟩ d)) :
    kx t0 b y3 y5 y6 y7 y8 qs r k = rx x1 x2 x4 x5 r0 r1 b q h k := by
  unfold kx rx
  rw [dif_pos ⟨by omega, by omega⟩, dif_pos ⟨hk, hk'⟩, e1, e4]
  simp only [e0, e3, e2, e5]
theorem kcs_eq_rcs {x4} (hk : k < 1664) (e4 : y7 (ix2 b ⟨k, by omega⟩) = x4 (ix2 b ⟨k, hk⟩)) : kcs b y7 k = rcs x4 b k := by
  unfold kcs rcs
  rw [dif_pos (by omega), dif_pos hk, e4]
theorem kv_eq_rv {r1} {d : Fin 512} (hk : k < 1664) (e3 : y6 (ix3 0 ⟨k, by omega⟩ d) = r1 (ix3 b ⟨k, hk⟩ d)) : kv y6 d k = rv r1 b d k := by
  unfold kv rv
  rw [dif_pos (by omega), dif_pos hk, e3]

end Pos

section Args
variable (c : Dev nD) (b : Fin 12) (t : Fin 1664) (h : Fin 32)

/-- The scores of a token's head over the launch's arguments. -/
abbrev sx : ℕ → EReal :=
  rx (m ((c : Thread nD τ).loc main_arg1)) (m ((c : Thread nD τ).loc main_arg2)) (m ((c : Thread nD τ).loc main_arg4))
    (m ((c : Thread nD τ).loc main_arg5)) (m ((c : Thread nD τ).loc main_arg0)) (m ((c : Thread nD τ).loc main_arg3)) b t h

/-- The attention output at a token, a head and a column. -/
def atO (d : Fin 512) : EReal :=
  if (t.val : ℤ) < (len m c b).toInt then
    ∑ k ∈ Finset.range 1664, Alg.re (sx m c b t h) 1664 k * Ideal.div 1 (Alg.rt (sx m c b t h) 1664)
      * rcs (m ((c : Thread nD τ).loc main_arg4)) b k * rv (m ((c : Thread nD τ).loc main_arg3)) b d k
  else 0

/-- The logarithm of the sum of exponentials at a token and a head. -/
def atL : EReal :=
  if (t.val : ℤ) < (len m c b).toInt then Alg.rm (sx m c b t h) 1664 + Ideal.log (Alg.rt (sx m c b t h) 1664) else 0

end Args

/-- From the computing case's two blocks, over scores, scales and codes that agree with the reference's up to the token, to the
    reference's formulas. -/
theorem close_at (c : Dev nD) (b : Fin 12) (q : Fin 1664) (h : Fin 32) (r : Fin 2048) (a N : ℕ) (hq : q.val = a + r.val / 32)
    (hh : h.val = r.val % 32) (O : Vec Ideal S1x2048x512 .bf16) (L : Vec Ideal S1x64x32 .f32) (x cs : ℕ → EReal) (v : Fin 512 → ℕ → EReal)
    (e : (∀ d, O (ix3 0 r d) = if ((a + r.val / 32 : ℕ) : ℤ) < (len m c b).toInt then
            ∑ k ∈ Finset.range N, Alg.re x N k * Ideal.div 1 (Alg.rt x N) * cs k * v d k else 0) ∧
      (∀ (t : Fin 64) (h : Fin 32), r.val = 32 * t.val + h.val → L (ix3 0 t h)
        = if ((a + t.val : ℕ) : ℤ) < (len m c b).toInt then Alg.rm x N + Ideal.log (Alg.rt x N) else 0))
    (hN : q.val + 1 ≤ N) (hb : ∀ k, q.val + 1 ≤ k → x k = ⊥) (hx : ∀ k < q.val + 1, x k = sx m c b q h k)
    (hcs : ∀ k < q.val + 1, cs k = rcs (m ((c : Thread nD τ).loc main_arg4)) b k)
    (hv : ∀ d, ∀ k < q.val + 1, v d k = rv (m ((c : Thread nD τ).loc main_arg3)) b d k) :
    (∀ d, (O, L).1 (ix3 0 r d) = atO m c b q h d) ∧ (∀ q' : Fin 64, q'.val = r.val / 32 → (O, L).2 (ix3 0 q' h) = atL m c b q h) := by
  have hq' := q.isLt
  have ht : ∀ k, q.val + 1 ≤ k → sx m c b q h k = ⊥ := fun k hk => dif_neg fun hh => by have := hh.2; omega
  refine ⟨fun d => (e.1 d).trans ?_, fun q' hq2 => (e.2 q' h (by omega)).trans ?_⟩
  · unfold atO
    rw [← hq]
    exact if_congr Iff.rfl (Alg.out_congr hN (by omega) hb ht hx hcs (hv d)) rfl
  · unfold atL
    rw [hq2, ← hq]
    exact if_congr Iff.rfl (Alg.lse_congr hN (by omega) hb ht hx) rfl

section Point
variable (hO : Ok m) (c : Dev nD) (t : Fin (cfgM m hO).N) (r : Fin 2048) (q : Fin 1664) (h : Fin 32)
  (hq : q.val = 64 * (grid0.coords t 1).val + r.val / 32) (hh : h.val = r.val % 32)
include hq hh

/-- Up to the token, the kernel's scores are the reference's. -/
theorem kx_eq (hw : Own m hO t) (k : ℕ) (hk : k < q.val + 1) :
    kx (64 * (grid0.coords t 1).val) (grid0.coords t 0) (iblk m hO c 0 t) (iblk m hO c 2 t) (iblk m hO c 3 t) (iblk m hO c 4 t) (iblk m hO c 5 t)
      (qsv (iblk m hO c 1 t) r) r k = sx m c (grid0.coords t 0) q h k := by
  have hq' := q.isLt
  have hj : 2048 * (grid0.coords t 1).val + r.val < 53248 := by
    have : (grid0.coords t 1).val < 26 := (grid0.coords t 1).isLt
    omega
  have hj' : 2048 * (grid0.coords t 1).val + r.val = 32 * q.val + h.val := by omega
  have e1 : qsv (iblk m hO c 1 t) r = m ((c : Thread nD τ).loc main_arg1) (ix3 (grid0.coords t 0) q h) := by
    have hf : (⟨r.val % 32, Nat.mod_lt _ (by decide)⟩ : Fin 32) = h := Fin.ext hh.symm
    unfold qsv
    rw [← hf]
    exact iblk1_at m hO c t hw _ _ q hq
  have e4 := (iblk4_at m hO c t (grid0.coords t 0) ⟨k, by omega⟩).trans (V_v3 m c _ _ (show k < 1664 by omega))
  have e0 (d : Fin 512) := (iblk0_at m hO c t hw r d ⟨_, hj⟩ rfl).trans (V_v4 m c _ q h d _ hj')
  have e2 (d : Fin 64) := (iblk2_at m hO c t hw r d ⟨_, hj⟩ rfl).trans (V_v5 m c _ q h d _ hj')
  have e3 (d : Fin 512) := (iblk3_at m hO c t ⟨k, by omega⟩ d).trans (V_v1 m c _ _ (show k < 1664 by omega) d)
  have e5 (d : Fin 64) := (iblk5_at m hO c t ⟨k, by omega⟩ d).trans (V_v2 m c _ _ (show k < 1664 by omega) d)
  exact kx_eq_rx (by omega) (by omega) hq e1 e4 e0 e3 e2 e5

theorem kcs_eq (k : ℕ) (hk : k < q.val + 1) : kcs (grid0.coords t 0) (iblk m hO c 4 t) k = rcs (m ((c : Thread nD τ).loc main_arg4)) (grid0.coords t 0) k := by
  have hq' := q.isLt
  exact kcs_eq_rcs (by omega) <| (iblk4_at m hO c t (grid0.coords t 0) ⟨k, by omega⟩).trans (V_v3 m c _ _ (show k < 1664 by omega))

theorem kv_eq (d : Fin 512) (k : ℕ) (hk : k < q.val + 1) : kv (iblk m hO c 3 t) d k = rv (m ((c : Thread nD τ).loc main_arg3)) (grid0.coords t 0) d k := by
  have hq' := q.isLt
  exact kv_eq_rv (by omega) <| (iblk3_at m hO c t ⟨k, by omega⟩ d).trans (V_v1 m c _ _ (show k < 1664 by omega) d)

theorem kx_tail (x0 x2 x3 x4 x5 qs) (k : ℕ) (hk : q.val + 1 ≤ k) : kx (64 * (grid0.coords t 1).val) (grid0.coords t 0) x0 x2 x3 x4 x5 qs r k = ⊥ := by
  unfold kx
  exact dif_neg fun hh => by have := hh.2; omega

theorem trips_ge : q.val + 1 ≤ 256 * (k0_t1_loop (grid0.coords t)).trips := by
  have e := trips1 (grid0.coords t)
  have := r.isLt
  omega

/-- What the body leaves in its two output blocks, at an index. -/
theorem outs_at (hlen : ∀ b, (len m c b).toInt ≤ 2147483584) :
    (∀ d, (outsAt0 m hO c t).1 (ix3 0 r d) = atO m c (grid0.coords t 0) q h d) ∧
    (∀ q' : Fin 64, q'.val = r.val / 32 → (outsAt0 m hO c t).2 (ix3 0 q' h) = atL m c (grid0.coords t 0) q h) := by
  have hq' := q.isLt
  have h26 : (grid0.coords t 1).val < 26 := (grid0.coords t 1).isLt
  have ew := word_eq m c (grid0.coords t)
  by_cases h0 : cond0_0 (grid0.coords t) (tbM0_0.view.readAt (Elt Ideal) (Rect.unit (s := S12) (k0_off1 (grid0.coords t)) S1.size (k0_off1_inb (grid0.coords t))).toLoadRect (tbl m 0) (Shape.Idx.first (numel1_S1.symm ▸ Nat.one_pos)))
  · have h1 : ¬cond0_1 (grid0.coords t) (tbM0_0.view.readAt (Elt Ideal) (Rect.unit (s := S12) (k0_off1 (grid0.coords t)) S1.size (k0_off1_inb (grid0.coords t))).toLoadRect (tbl m 0) (Shape.Idx.first (numel1_S1.symm ▸ Nat.one_pos))) := fun h1 => excl0 h0 h1
    have hle := (cond0_0_iff _ _).1 h0
    rw [ew, t0w_toInt] at hle
    have hn : ¬ (q.val : ℤ) < (len m c (grid0.coords t 0)).toInt := by omega
    rw [outsAt0_A m hO c t h0 h1]
    unfold atO atL
    rw [if_neg hn]
    have e := block_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (tbl m 0) h0 h1
    exact ⟨fun d => ((congrFun e.1 _).trans (pay1_at _)).trans (if_neg hn).symm, fun q' _ => ((congrFun e.2 _).trans (pay2_at _))⟩
  · have h1 : cond0_1 (grid0.coords t) (tbM0_0.view.readAt (Elt Ideal) (Rect.unit (s := S12) (k0_off1 (grid0.coords t)) S1.size (k0_off1_inb (grid0.coords t))).toLoadRect (tbl m 0) (Shape.Idx.first (numel1_S1.symm ▸ Nat.one_pos))) := by
      rw [cond0_1_iff]; rw [cond0_0_iff] at h0; omega
    have hlt := (cond0_1_iff _ _).1 h1
    rw [ew, t0w_toInt] at hlt
    have hw : Own m hO t := by
      unfold Own
      rw [lenW_eq m c]
      exact Words.qw_eq _ _ h26 (hlen _) hlt
    have e := block_B_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (tbl m 0) h0 h1 r
    rw [ew] at e
    rw [outsAt0_B m hO c t h0 h1]
    have hx := kx_eq m hO c t r q h hq hh hw
    have hb := kx_tail m hO t r q h hq hh (iblk m hO c 0 t) (iblk m hO c 2 t) (iblk m hO c 3 t) (iblk m hO c 4 t) (iblk m hO c 5 t) (qsv (iblk m hO c 1 t) r)
    have hN := trips_ge m hO t r q h hq hh
    exact close_at m c (grid0.coords t 0) q h r _ _ hq hh _ _ _ _ _ e hN hb hx (kcs_eq m hO c t r q h hq hh) (kv_eq m hO c t r q h hq hh)

end Point

/-! ## The arrays -/

/-- The attention output's array: tokens and heads on one axis. -/
def arrO (c : Dev nD) : FVec Ideal S12x53248x512 .bf16 := fun j =>
  atO m c ⟨(j 0).val, (j 0).isLt⟩ ⟨(j 1).val / 32, by have : (j 1).val < 53248 := (j 1).isLt; omega⟩ ⟨(j 1).val % 32, by omega⟩ ⟨(j 2).val, (j 2).isLt⟩
/-- The array of logarithms. -/
def arrL (c : Dev nD) : FVec Ideal S12x1664x32 .f32 := fun j =>
  atL m c ⟨(j 0).val, (j 0).isLt⟩ ⟨(j 1).val, (j 1).isLt⟩ ⟨(j 2).val, (j 2).isLt⟩

theorem arrO_at (c : Dev nD) (b : Fin 12) (t : Fin 1664) (h : Fin 32) (d : Fin 512) (j : S12x53248x512.Idx) (h0 : (j 0).val = b.val)
    (h1 : (j 1).val = 32 * t.val + h.val) (h2 : (j 2).val = d.val) : arrO m c j = atO m c b t h d := by
  have hh := h.isLt
  have e0 : (⟨(j 0).val, (j 0).isLt⟩ : Fin 12) = b := Fin.ext h0
  have e1 : (⟨(j 1).val / 32, by have : (j 1).val < 53248 := (j 1).isLt; omega⟩ : Fin 1664) = t := Fin.ext (by show (j 1).val / 32 = _; omega)
  have e2 : (⟨(j 1).val % 32, by omega⟩ : Fin 32) = h := Fin.ext (by show (j 1).val % 32 = _; omega)
  have e3 : (⟨(j 2).val, (j 2).isLt⟩ : Fin 512) = d := Fin.ext h2
  exact congr (congr (congr (congrArg (atO m c) e0) e1) e2) e3

theorem arrL_at (c : Dev nD) (b : Fin 12) (t : Fin 1664) (h : Fin 32) (j : S12x1664x32.Idx) (h0 : (j 0).val = b.val)
    (h1 : (j 1).val = t.val) (h2 : (j 2).val = h.val) : arrL m c j = atL m c b t h := by
  have e0 : (⟨(j 0).val, (j 0).isLt⟩ : Fin 12) = b := Fin.ext h0
  have e1 : (⟨(j 1).val, (j 1).isLt⟩ : Fin 1664) = t := Fin.ext h1
  have e2 : (⟨(j 2).val, (j 2).isLt⟩ : Fin 32) = h := Fin.ext h2
  exact congr (congr (congrArg (atL m c) e0) e1) e2

theorem coords_val : ∀ t : Fin grid0.N, (grid0.coords t 0).val = t.val / 26 ∧ (grid0.coords t 1).val = t.val % 26 := by
  decide +kernel

section Arrays
variable (hO : Ok m) (c : Dev nD)

/-- Every block written back to the first result is the formula's block. -/
theorem flushed6 (hlen : ∀ b, (len m c b).toInt ≤ 2147483584) (t : Fin (cfgM m hO).N) (hf : ((cfgM m hO).win 6).flush t = true) :
    (dats m hO 0 c).flushed 6 t = (((cfgM m hO).win 6).blk t).view.read (Elt Ideal) (arrO m c) := by
  show ((cfgM m hO).win 6).cut (grid0.coords t) ((dats m hO 0 c).after 6 t) = _
  rw [after0_6]
  have key : ∀ x : S1x2048x512.Idx, (outsAt0 m hO c t).1 x = arrO m c ((((cfgM m hO).win 6).blk t).view.emb x) := by
    intro x
    have hi : (grid0.coords t 1).val < 26 := (grid0.coords t 1).isLt
    have hb : (grid0.coords t 0).val < 12 := (grid0.coords t 0).isLt
    have hr : (x 1).val < 2048 := (x 1).isLt
    have hx0 : (x 0).val < 1 := (x 0).isLt
    have ex : x = ix3 0 ⟨(x 1).val, hr⟩ ⟨(x 2).val, (x 2).isLt⟩ := funext fun a => Fin.ext (by
      match a with
      | ⟨0, _⟩ => show (x 0).val = 0; omega
      | ⟨1, _⟩ => rfl
      | ⟨2, _⟩ => rfl)
    have e := (outs_at m hO c t ⟨(x 1).val, hr⟩ ⟨64 * (grid0.coords t 1).val + (x 1).val / 32, by omega⟩ ⟨(x 1).val % 32, by omega⟩ rfl rfl hlen).1
      ⟨(x 2).val, (x 2).isLt⟩
    refine ((congrArg (outsAt0 m hO c t).1 ex).trans e).trans ?_
    refine (arrO_at m c _ _ _ _ _ ?_ ?_ ?_).symm
    · show (BitVec.ofNat 32 (grid0.coords t 0).val).toNat * 1 + 1 * (x 0).val = (grid0.coords t 0).val
      rw [WordCmp.toNat_ofNat_of_lt (by omega)]; omega
    · show (BitVec.ofNat 32 (grid0.coords t 1).val).toNat * 2048 + 1 * (x 1).val = 32 * (64 * (grid0.coords t 1).val + (x 1).val / 32) + (x 1).val % 32
      rw [WordCmp.toNat_ofNat_of_lt (by omega)]; omega
    · show 0 * 512 + 1 * (x 2).val = (x 2).val
      omega
  exact funext fun x => key x

/-- Every block written back to the second result is the formula's block. -/
theorem flushed7 (hlen : ∀ b, (len m c b).toInt ≤ 2147483584) (t : Fin (cfgM m hO).N) (hf : ((cfgM m hO).win 7).flush t = true) :
    (dats m hO 0 c).flushed 7 t = (((cfgM m hO).win 7).blk t).view.read (Elt Ideal) (arrL m c) := by
  show ((cfgM m hO).win 7).cut (grid0.coords t) ((dats m hO 0 c).after 7 t) = _
  rw [after0_7]
  have key : ∀ x : S1x64x32.Idx, (outsAt0 m hO c t).2 x = arrL m c ((((cfgM m hO).win 7).blk t).view.emb x) := by
    intro x
    have hi : (grid0.coords t 1).val < 26 := (grid0.coords t 1).isLt
    have hb : (grid0.coords t 0).val < 12 := (grid0.coords t 0).isLt
    have hr : (x 1).val < 64 := (x 1).isLt
    have hh : (x 2).val < 32 := (x 2).isLt
    have hx0 : (x 0).val < 1 := (x 0).isLt
    have ex : x = ix3 0 ⟨(x 1).val, hr⟩ ⟨(x 2).val, hh⟩ := funext fun a => Fin.ext (by
      match a with
      | ⟨0, _⟩ => show (x 0).val = 0; omega
      | ⟨1, _⟩ => rfl
      | ⟨2, _⟩ => rfl)
    have e := (outs_at m hO c t ⟨32 * (x 1).val + (x 2).val, by omega⟩ ⟨64 * (grid0.coords t 1).val + (x 1).val, by omega⟩ ⟨(x 2).val, hh⟩
      (by show 64 * _ + (x 1).val = 64 * _ + (32 * (x 1).val + (x 2).val) / 32; omega) (by show (x 2).val = (32 * (x 1).val + (x 2).val) % 32; omega) hlen).2
      ⟨(x 1).val, hr⟩ (by show (x 1).val = (32 * (x 1).val + (x 2).val) / 32; omega)
    refine ((congrArg (outsAt0 m hO c t).2 ex).trans e).trans ?_
    refine (arrL_at m c _ _ _ _ ?_ ?_ ?_).symm
    · show (BitVec.ofNat 32 (grid0.coords t 0).val).toNat * 1 + 1 * (x 0).val = (grid0.coords t 0).val
      rw [WordCmp.toNat_ofNat_of_lt (by omega)]; omega
    · show (BitVec.ofNat 32 (grid0.coords t 1).val).toNat * 64 + 1 * (x 1).val = 64 * (grid0.coords t 1).val + (x 1).val
      rw [WordCmp.toNat_ofNat_of_lt (by omega)]; omega
    · show 0 * 32 + 1 * (x 2).val = (x 2).val
      omega
  exact funext fun x => key x

/-- The blocks cover the first result. -/
theorem covered6 (i : S12x53248x512.Idx) : ∃ t : Fin (cfgM m hO).N, ((cfgM m hO).win 6).flush t = true ∧ i ∈ (((cfgM m hO).win 6).blk t).view.set := by
  have h0 : (i 0).val < 12 := (i 0).isLt
  have h1 : (i 1).val < 53248 := (i 1).isLt
  have h2 : (i 2).val < 512 := (i 2).isLt
  have hN : (cfgM m hO).N = 312 := rfl
  let t : Fin (cfgM m hO).N := ⟨26 * (i 0).val + (i 1).val / 2048, by omega⟩
  have e := coords_val t
  have e0 : (grid0.coords t 0).val = (i 0).val := e.1.trans (by show (26 * (i 0).val + (i 1).val / 2048) / 26 = _; omega)
  have e1 : (grid0.coords t 1).val = (i 1).val / 2048 := e.2.trans (by show (26 * (i 0).val + (i 1).val / 2048) % 26 = _; omega)
  refine ⟨t, flush0_6 _ t, ?_⟩
  show i ∈ ((View.whole main_v6_0).slice (((cfgM m hO).win 6).rect t)).set
  refine (Finset.ext_iff.1 (View.set_slice_whole _ _) i).2 (Rect.mem_set_unit.2 ?_)
  intro a
  match a with
  | ⟨0, _⟩ => show (BitVec.ofNat 32 (grid0.coords t 0).val).toNat * 1 ≤ (i 0).val ∧ (i 0).val < (BitVec.ofNat 32 (grid0.coords t 0).val).toNat * 1 + 1
              rw [e0, WordCmp.toNat_ofNat_of_lt (by omega)]; omega
  | ⟨1, _⟩ => show (BitVec.ofNat 32 (grid0.coords t 1).val).toNat * 2048 ≤ (i 1).val ∧ (i 1).val < (BitVec.ofNat 32 (grid0.coords t 1).val).toNat * 2048 + 2048
              rw [e1, WordCmp.toNat_ofNat_of_lt (by omega)]; omega
  | ⟨2, _⟩ => show 0 * 512 ≤ (i 2).val ∧ (i 2).val < 0 * 512 + 512; omega

/-- The first result's array after the launch. -/
theorem final6 (hlen : ∀ b, (len m c b).toInt ≤ 2147483584) : (dats m hO 0 c).arrAt 6 (cfgM m hO).N = arrO m c :=
  (dats m hO 0 c).arrAt_eq_of_cover 6 (arrO m c) (flushed6 m hO c hlen) fun i => covered6 m hO i

/-- The blocks cover the second result. -/
theorem covered7 (i : S12x1664x32.Idx) : ∃ t : Fin (cfgM m hO).N, ((cfgM m hO).win 7).flush t = true ∧ i ∈ (((cfgM m hO).win 7).blk t).view.set := by
  have h0 : (i 0).val < 12 := (i 0).isLt
  have h1 : (i 1).val < 1664 := (i 1).isLt
  have h2 : (i 2).val < 32 := (i 2).isLt
  have hN : (cfgM m hO).N = 312 := rfl
  let t : Fin (cfgM m hO).N := ⟨26 * (i 0).val + (i 1).val / 64, by omega⟩
  have e := coords_val t
  have e0 : (grid0.coords t 0).val = (i 0).val := e.1.trans (by show (26 * (i 0).val + (i 1).val / 64) / 26 = _; omega)
  have e1 : (grid0.coords t 1).val = (i 1).val / 64 := e.2.trans (by show (26 * (i 0).val + (i 1).val / 64) % 26 = _; omega)
  refine ⟨t, flush0_7 _ t, ?_⟩
  show i ∈ ((View.whole main_v6_1).slice (((cfgM m hO).win 7).rect t)).set
  refine (Finset.ext_iff.1 (View.set_slice_whole _ _) i).2 (Rect.mem_set_unit.2 ?_)
  intro a
  match a with
  | ⟨0, _⟩ => show (BitVec.ofNat 32 (grid0.coords t 0).val).toNat * 1 ≤ (i 0).val ∧ (i 0).val < (BitVec.ofNat 32 (grid0.coords t 0).val).toNat * 1 + 1
              rw [e0, WordCmp.toNat_ofNat_of_lt (by omega)]; omega
  | ⟨1, _⟩ => show (BitVec.ofNat 32 (grid0.coords t 1).val).toNat * 64 ≤ (i 1).val ∧ (i 1).val < (BitVec.ofNat 32 (grid0.coords t 1).val).toNat * 64 + 64
              rw [e1, WordCmp.toNat_ofNat_of_lt (by omega)]; omega
  | ⟨2, _⟩ => show 0 * 32 ≤ (i 2).val ∧ (i 2).val < 0 * 32 + 32; omega

/-- The second result's array after the launch. -/
theorem final7 (hlen : ∀ b, (len m c b).toInt ≤ 2147483584) : (dats m hO 0 c).arrAt 7 (cfgM m hO).N = arrL m c :=
  (dats m hO 0 c).arrAt_eq_of_cover 7 (arrL m c) (flushed7 m hO c hlen) fun i => covered7 m hO i

end Arrays

/-- The run of the kernel, read at its results and arguments. -/
theorem run_value (ρ : Dev nD → PrngReg) (hlen : ∀ c b, (len m c b).toInt ≤ 2147483584) :
    θ_run defs (onTc (τ := τ) (main (F := Ideal))) ⟨m, fun _ => 0, ρ⟩ (fun r => ∀ c : Dev nD,
      r.2.mem ((c.tc : Thread nD τ).loc main_v6_0) = arrO m c
      ∧ r.2.mem ((c.tc : Thread nD τ).loc main_v6_1) = arrL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.2 c).1 6).trans (final6 m (ok m) c (hlen c)), ((h.2 c).1 7).trans (final7 m (ok m) c (hlen c)), h.1 c⟩)
    (θ_run_and (unchanged m ρ (ok m)) (run_main m ρ (ok m)))

end Cert.KernelIdeal.Gen

end
-- ==== Proof.RefValue.lean ====
/- The reference's two results: its decoding call leaves the codes as they are, and each result is the formula over the arguments. -/
module

public import proofs.«01_k».proof.Proof.KIVal
public import proofs.«01_k».proof.Proof.RefElt
public import proofs.«01_k».proof.Proof.Gen.ReferenceIdeal.Frame
public import proofs.«01_k».proof.Proof.Gen.ReferenceIdeal.Run
public import proofs.«01_k».proof.Proof.Gen.ReferenceIdeal.Read
public import Idealize.ShloMosaic.Lib.Pipeline.Value

@[expose] public section

set_option maxRecDepth 16384

noncomputable section

namespace Cert.ReferenceIdeal.Gen

open Idealize.ShloMosaic Idealize.ShloMosaic.TcCoe Idealize.SL Idealize.SL.Sem
open Cert.ReferenceIdeal.Facts₀ Cert.ReferenceIdeal.Facts

variable (m : (ℓ : Loc nD τ sig) → Buf (Elt Ideal) ℓ)

/-! ## The decoding call: over the extended reals it copies -/

theorem hz4 : (![0, 0, 0, 0] : Fin S12x1664x32x512.rank → ℕ) = fun _ => 0 := funext fun a => by fin_cases a <;> rfl
theorem hz3 : (![0, 0, 0] : Fin S12x1664x512.rank → ℕ) = fun _ => 0 := funext fun a => by fin_cases a <;> rfl

theorem out0_2_eq (x0 : Vec Ideal S12x1664x32x512 .fp8e4m3) (x1 : Vec Ideal S12x1664x512 .fp8e4m3) (x : S12x1664x32x512.Idx) :
    out0_2 x0 x1 x = x0 x := by
  unfold out0_2
  rw [View.canon_unit_zero hz4, View.ld_unit_zero (S := S12x1664x32x512) hz4]
  rfl

theorem out0_3_eq (x0 : Vec Ideal S12x1664x32x512 .fp8e4m3) (x1 : Vec Ideal S12x1664x512 .fp8e4m3) (x : S12x1664x512.Idx) :
    out0_3 x0 x1 x = x1 x := by
  unfold out0_3
  rw [View.canon_unit_zero hz3, View.ld_unit_zero (S := S12x1664x512) hz3]
  rfl

/-- The query codes as the decoding call leaves them. -/
def codesQ (c : Dev nD) : FVec Ideal S12x1664x32x512 .f32 := fun i => m ((c : Thread nD τ).loc main_arg0) i
/-- The key codes as the decoding call leaves them. -/
def codesK (c : Dev nD) : FVec Ideal S12x1664x512 .f32 := fun i => m ((c : Thread nD τ).loc main_arg3) i

theorem emb0_0 (t : Fin cfg0.N) (x : S12x1664x32x512.Idx) : ((cfg0.win 0).blk t).view.emb x = x := by
  refine funext fun a => Fin.ext ?_
  match a with
  | ⟨0, _⟩ => show 0 * 12 + 1 * (x 0).val = (x 0).val; omega
  | ⟨1, _⟩ => show 0 * 1664 + 1 * (x 1).val = (x 1).val; omega
  | ⟨2, _⟩ => show 0 * 32 + 1 * (x 2).val = (x 2).val; omega
  | ⟨3, _⟩ => show 0 * 512 + 1 * (x 3).val = (x 3).val; omega
theorem emb0_2 (t : Fin cfg0.N) (x : S12x1664x32x512.Idx) : ((cfg0.win 2).blk t).view.emb x = x := by
  refine funext fun a => Fin.ext ?_
  match a with
  | ⟨0, _⟩ => show 0 * 12 + 1 * (x 0).val = (x 0).val; omega
  | ⟨1, _⟩ => show 0 * 1664 + 1 * (x 1).val = (x 1).val; omega
  | ⟨2, _⟩ => show 0 * 32 + 1 * (x 2).val = (x 2).val; omega
  | ⟨3, _⟩ => show 0 * 512 + 1 * (x 3).val = (x 3).val; omega
theorem emb0_1 (t : Fin cfg0.N) (x : S12x1664x512.Idx) : ((cfg0.win 1).blk t).view.emb x = x := by
  refine funext fun a => Fin.ext ?_
  match a with
  | ⟨0, _⟩ => show 0 * 12 + 1 * (x 0).val = (x 0).val; omega
  | ⟨1, _⟩ => show 0 * 1664 + 1 * (x 1).val = (x 1).val; omega
  | ⟨2, _⟩ => show 0 * 512 + 1 * (x 2).val = (x 2).val; omega
theorem emb0_3 (t : Fin cfg0.N) (x : S12x1664x512.Idx) : ((cfg0.win 3).blk t).view.emb x = x := by
  refine funext fun a => Fin.ext ?_
  match a with
  | ⟨0, _⟩ => show 0 * 12 + 1 * (x 0).val = (x 0).val; omega
  | ⟨1, _⟩ => show 0 * 1664 + 1 * (x 1).val = (x 1).val; omega
  | ⟨2, _⟩ => show 0 * 512 + 1 * (x 2).val = (x 2).val; omega

theorem iblk0 (c : Dev nD) (t : Fin cfg0.N) (x : S12x1664x32x512.Idx) : iblk m c 0 t x = codesQ m c x :=
  (View.read_apply _ _).trans (congrArg (m ((c : Thread nD τ).loc main_arg0)) (emb0_0 t x))
theorem iblk1 (c : Dev nD) (t : Fin cfg0.N) (x : S12x1664x512.Idx) : iblk m c 1 t x = codesK m c x :=
  (View.read_apply _ _).trans (congrArg (m ((c : Thread nD τ).loc main_arg3)) (emb0_1 t x))

theorem flushed2 (c : Dev nD) (t : Fin cfg0.N) (hf : (cfg0.win 2).flush t = true) :
    (dats m 0 c).flushed 2 t = ((cfg0.win 2).blk t).view.read (Elt Ideal) (codesQ m c) := by
  show (cfg0.win 2).cut (grid0.coords t) ((dats m 0 c).after 2 t) = _
  rw [after0_2]
  have key : ∀ x : S12x1664x32x512.Idx, out0_2 (iblk m c 0 t) (iblk m c 1 t) x = codesQ m c (((cfg0.win 2).blk t).view.emb x) := fun x =>
    ((out0_2_eq _ _ x).trans (iblk0 m c t x)).trans (congrArg (codesQ m c) (emb0_2 t x).symm)
  exact funext fun x => key x
theorem flushed3 (c : Dev nD) (t : Fin cfg0.N) (hf : (cfg0.win 3).flush t = true) :
    (dats m 0 c).flushed 3 t = ((cfg0.win 3).blk t).view.read (Elt Ideal) (codesK m c) := by
  show (cfg0.win 3).cut (grid0.coords t) ((dats m 0 c).after 3 t) = _
  rw [after0_3]
  have key : ∀ x : S12x1664x512.Idx, out0_3 (iblk m c 0 t) (iblk m c 1 t) x = codesK m c (((cfg0.win 3).blk t).view.emb x) := fun x =>
    ((out0_3_eq _ _ x).trans (iblk1 m c t x)).trans (congrArg (codesK m c) (emb0_3 t x).symm)
  exact funext fun x => key x

theorem mem0_2 (t : Fin cfg0.N) (i : S12x1664x32x512.Idx) : i ∈ ((cfg0.win 2).blk t).view.set :=
  @Eq.subst S12x1664x32x512.Idx (fun j => j ∈ ((cfg0.win 2).blk t).view.set) _ _ (emb0_2 t i) (View.emb_mem_set ((cfg0.win 2).blk t).view i)
theorem covered2 (i : S12x1664x32x512.Idx) : ∃ t : Fin cfg0.N, (cfg0.win 2).flush t = true ∧ i ∈ ((cfg0.win 2).blk t).view.set :=
  have t : Fin cfg0.N := ⟨0, Nat.zero_lt_one⟩
  ⟨t, flush0_2 t, mem0_2 t i⟩
theorem mem0_3 (t : Fin cfg0.N) (i : S12x1664x512.Idx) : i ∈ ((cfg0.win 3).blk t).view.set :=
  @Eq.subst S12x1664x512.Idx (fun j => j ∈ ((cfg0.win 3).blk t).view.set) _ _ (emb0_3 t i) (View.emb_mem_set ((cfg0.win 3).blk t).view i)
theorem covered3 (i : S12x1664x512.Idx) : ∃ t : Fin cfg0.N, (cfg0.win 3).flush t = true ∧ i ∈ ((cfg0.win 3).blk t).view.set :=
  have t : Fin cfg0.N := ⟨0, Nat.zero_lt_one⟩
  ⟨t, flush0_3 t, mem0_3 t i⟩

theorem reg_q (c : Dev nD) : Value.reg_main_v0_0 m c = codesQ m c :=
  (dats m 0 c).arrAt_eq_of_cover 2 (codesQ m c) (flushed2 m c) fun i => covered2 i
theorem reg_k (c : Dev nD) : Value.reg_main_v0_1 m c = codesK m c :=
  (dats m 0 c).arrAt_eq_of_cover 3 (codesK m c) (flushed3 m c) fun i => covered3 i

/-- The first result, as the stages give it over the launch's arguments. -/
def resO (c : Dev nD) : FVec Ideal S12x53248x512 .bf16 :=
  Read.val_main_v51 (F := Ideal) (m ((c : Thread nD τ).loc main_arg1)) (m ((c : Thread nD τ).loc main_arg2)) (m ((c : Thread nD τ).loc main_arg4))
    (m ((c : Thread nD τ).loc main_arg5)) (m ((c : Thread nD τ).loc main_arg6)) (codesQ m c) (codesK m c)
/-- The second result, as the stages give it over the launch's arguments. -/
def resL (c : Dev nD) : FVec Ideal S12x1664x32 .f32 :=
  Read.val_main_v50 (F := Ideal) (m ((c : Thread nD τ).loc main_arg1)) (m ((c : Thread nD τ).loc main_arg2)) (m ((c : Thread nD τ).loc main_arg4))
    (m ((c : Thread nD τ).loc main_arg5)) (m ((c : Thread nD τ).loc main_arg6)) (codesQ m c) (codesK m c)

theorem exit_v51 (c : Dev nD) :
    Read.val_main_v51 (F := Ideal) (Value.exitV m c (Proc.devRef .tc main_arg1)) (Value.exitV m c (Proc.devRef .tc main_arg2))
      (Value.exitV m c (Proc.devRef .tc main_arg4)) (Value.exitV m c (Proc.devRef .tc main_arg5)) (Value.exitV m c (Proc.devRef .tc main_arg6))
      (Value.exitV m c (Proc.devRef .tc main_v0_0)) (Value.exitV m c (Proc.devRef .tc main_v0_1)) = resO m c := by
  unfold resO
  rw [Value.exit_main_arg1, Value.exit_main_arg2, Value.exit_main_arg4, Value.exit_main_arg5, Value.exit_main_arg6, Value.exit_main_v0_0,
    Value.exit_main_v0_1, reg_q, reg_k]
theorem exit_v50 (c : Dev nD) :
    Read.val_main_v50 (F := Ideal) (Value.exitV m c (Proc.devRef .tc main_arg1)) (Value.exitV m c (Proc.devRef .tc main_arg2))
      (Value.exitV m c (Proc.devRef .tc main_arg4)) (Value.exitV m c (Proc.devRef .tc main_arg5)) (Value.exitV m c (Proc.devRef .tc main_arg6))
      (Value.exitV m c (Proc.devRef .tc main_v0_0)) (Value.exitV m c (Proc.devRef .tc main_v0_1)) = resL m c := by
  unfold resL
  rw [Value.exit_main_arg1, Value.exit_main_arg2, Value.exit_main_arg4, Value.exit_main_arg5, Value.exit_main_arg6, Value.exit_main_v0_0,
    Value.exit_main_v0_1, reg_q, reg_k]

/-- The run of the reference, read at its results and arguments. -/
theorem run_value (ρ : Dev nD → PrngReg) :
    θ_run defs (onTc (τ := τ) (main (F := Ideal))) ⟨m, fun _ => 0, ρ⟩ (fun r => ∀ c : Dev nD,
      r.2.mem ((c.tc : Thread nD τ).loc main_v51) = resO m c
      ∧ r.2.mem ((c.tc : Thread nD τ).loc main_v50) = resL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1.trans (Read.val_main_v51_eq (Value.exitV m c))).trans (exit_v51 m c),
    ((h c).2.1.trans (Read.val_main_v50_eq (Value.exitV m c))).trans (exit_v50 m c), (h c).2.2⟩) (Value.run m ρ)

end Cert.ReferenceIdeal.Gen

end
-- ==== Proof.Algebraic.lean ====
/- The value claim: from memories agreeing on the arguments, the kernel and the reference end with equal results. -/
module

public import proofs.«01_k».proof.Defs
public import proofs.«01_k».proof.Proof.KIResult
public import proofs.«01_k».proof.Proof.RefValue
public import proofs.«01_k».proof.Proof.Gen.Pre_lens_fit

@[expose] public section

set_option maxRecDepth 16384

noncomputable section

namespace Cert.Proof

open Idealize.ShloMosaic Idealize.ShloMosaic.TcCoe Idealize.SL.Sem

/-- The precondition, read at a sequence: its length leaves room for one block more. -/
theorem lens_le (m : (ℓ : Loc KernelIdeal.nD KernelIdeal.τ KernelIdeal.sig) → Buf (Elt Ideal) ℓ) (h : Pre_KernelIdeal_lens_fit m)
    (c : Dev KernelIdeal.nD) (b : Fin 12) : (KernelIdeal.Gen.len m c b).toInt ≤ 2147483584 := by
  have e := congrFun (h c) (ix1 b)
  have e' : (BitVec.ofBool ((KernelIdeal.Gen.len m c b).sle 2147483584#32)) = 1#1 := e
  have e2 : (KernelIdeal.Gen.len m c b).sle 2147483584#32 = true := by
    revert e'
    cases (KernelIdeal.Gen.len m c b).sle 2147483584#32
    · intro e'
      exact absurd e' (by decide)
    · intro _
      rfl
  exact (BitVec.sle_iff_toInt_le.1 e2).trans (by decide)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The reference's first result is the kernel's, when the arguments agree. -/
theorem resO_eq (h0 : ReferenceIdeal.Gen.codesQ m' c = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : ReferenceIdeal.Gen.codesK m' c = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6)) :
    ReferenceIdeal.Gen.resO m' c = KernelIdeal.Gen.arrO m c := by
  unfold ReferenceIdeal.Gen.resO
  rw [h0, h1, h2, h3, h4, h5, h6]
  funext j
  have hj : (j 1).val < 53248 := (j 1).isLt
  have ej : j = ix3 (n0 := 12) (n1 := 53248) (n2 := 512) ⟨(j 0).val, (j 0).isLt⟩ ⟨(j 1).val, hj⟩ ⟨(j 2).val, (j 2).isLt⟩ := funext fun a => by
    match a with
    | ⟨0, _⟩ => rfl
    | ⟨1, _⟩ => rfl
    | ⟨2, _⟩ => rfl
  refine (congrArg _ ej).trans ((ReferenceIdeal.Read.v51_at _ _ _ _ _ _ _ ⟨(j 0).val, (j 0).isLt⟩ ⟨(j 1).val / 32, by omega⟩
    ⟨(j 1).val % 32, by omega⟩ ⟨(j 2).val, (j 2).isLt⟩ ⟨(j 1).val, hj⟩ (by show (j 1).val = 32 * ((j 1).val / 32) + (j 1).val % 32; omega)).trans ?_)
  rfl

/-- The reference's second result is the kernel's, when the arguments agree. -/
theorem resL_eq (h0 : ReferenceIdeal.Gen.codesQ m' c = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : ReferenceIdeal.Gen.codesK m' c = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6)) :
    ReferenceIdeal.Gen.resL m' c = KernelIdeal.Gen.arrL m c := by
  unfold ReferenceIdeal.Gen.resL
  rw [h0, h1, h2, h3, h4, h5, h6]
  funext j
  have ej : j = ix3 (n0 := 12) (n1 := 1664) (n2 := 32) ⟨(j 0).val, (j 0).isLt⟩ ⟨(j 1).val, (j 1).isLt⟩ ⟨(j 2).val, (j 2).isLt⟩ := funext fun a => by
    match a with
    | ⟨0, _⟩ => rfl
    | ⟨1, _⟩ => rfl
    | ⟨2, _⟩ => rfl
  refine (congrArg _ ej).trans ((ReferenceIdeal.Read.v50_at _ _ _ _ _ _ _ ⟨(j 0).val, (j 0).isLt⟩ ⟨(j 1).val, (j 1).isLt⟩
    ⟨(j 2).val, (j 2).isLt⟩).trans ?_)
  rfl

/-- Both runs end with the kernel's two arrays. -/
theorem algebraic : Cert.algebraic_KernelIdeal_ReferenceIdeal_pre_lens_fit := by
  intro m g m' g' hpre hargs
  refine ⟨KernelIdeal.Gen.arrO m, KernelIdeal.Gen.arrL m, KernelIdeal.Gen.run_value m g (lens_le m hpre),
    (θ_run ReferenceIdeal.defs _ _).mono (fun _ h c => ?_) (ReferenceIdeal.Gen.run_value m' g')⟩
  obtain ⟨h0, h1, h2, h3, h4, h5, h6⟩ := hargs c
  exact ⟨(h c).1.trans (resO_eq m m' c h0 h1 h2 h3 h4 h5 h6), (h c).2.1.trans (resL_eq m m' c h0 h1 h2 h3 h4 h5 h6), (h c).2.2⟩

end Cert.Proof

end
-- ==== Proof.lean ====
module

public import proofs.«01_k».proof.Defs
public import proofs.«01_k».proof.Proof.KFrame
public import proofs.«01_k».proof.Proof.KOk
public import proofs.«01_k».proof.Proof.KIFrame
public import proofs.«01_k».proof.Proof.KIOk
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_lens_fit
public import Idealize.ShloMosaic.Adequacy
public import Idealize.ShloMosaic.Init

@[expose] public section

noncomputable section

namespace Cert.Proof

open Idealize.ShloMosaic Idealize.SL.Sem Cert.Kernel

/-- The two constants the kernel writes out as floats are the named reals, rounded. -/
theorem preserves : Cert.preserves_Kernel_KernelIdeal :=
  ⟨IdealRules.named_const.statement Cert.KernelIdeal.κ "sm_scale_log2e" .f32 0x3DD53B95#32 _ rfl,
    IdealRules.named_const.statement Cert.KernelIdeal.κ "sm_scale" .f32 0x3D93CD3A#32 _ rfl⟩

theorem claim : Cert.Claim := ⟨Cert.Kernel.Gen.facts, Cert.KernelIdeal.Gen.facts, Cert.ReferenceIdeal.Gen.facts, Cert.Pre_lens_fit.Gen.facts,
  fun m ρ _ => Cert.Kernel.Gen.frame m ρ (Cert.Kernel.Gen.ok m),
  fun m ρ _ => Cert.KernelIdeal.Gen.frame m ρ (Cert.KernelIdeal.Gen.ok m),
  fun m ρ _ => Cert.KernelIdeal.Gen.frame m ρ (Cert.KernelIdeal.Gen.ok m),
  fun m ρ _ => Cert.ReferenceIdeal.Gen.frame m ρ,
  fun m ρ _ => Cert.ReferenceIdeal.Gen.frame m ρ,
  preserves, algebraic⟩

end Cert.Proof

end
